-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queue_finite [hPre_queue_finite : Cert.Pre_queue_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queue_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_queue_short [hPre_queue_short : Cert.Pre_queue_short.Facts] (m : (ℓ : Loc Cert.KernelIdeal.nD Cert.KernelIdeal.τ Cert.KernelIdeal.sig) → Buf (Elt Ideal) ℓ) : Prop :=
  ∀ c : Dev Cert.KernelIdeal.nD,
    (Cert.Pre_queue_short.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queue_finite [hPre_queue_finite : Cert.Pre_queue_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queue_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_queue_finite [hKernelIdeal : Cert.KernelIdeal.Facts] [hPre_queue_finite : Cert.Pre_queue_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queue_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_queue_short [hKernelIdeal : Cert.KernelIdeal.Facts] [hPre_queue_short : Cert.Pre_queue_short.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queue_short m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_queue_finite [hReferenceIdeal : Cert.ReferenceIdeal.Facts] [hPre_queue_finite : Cert.Pre_queue_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queue_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "c_scale" .f32 0x3DF5FDF0#32 ((((1 / 2) * (Real.log 2)) * ((1 / 2) * (Real.log 2)) : ℝ) : EReal)
  ∧ IdealRules.named_const.Statement Cert.KernelIdeal.κ "floor_sq_c" .f32 0x1614B169#32 (((5316911940649 / 5316911983139663491615228241121378304) * (((1 / 2) * (Real.log 2)) * ((1 / 2) * (Real.log 2))) : ℝ) : EReal)
  ∧ IdealRules.named_const.Statement Cert.KernelIdeal.κ "floor_sq" .f32 0x179ABE15#32 ((5316911940649 / 5316911983139663491615228241121378304 : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "ln2_mean" .f32 0x3B966AE3#32 (((Real.log 2) * (1 / 151) : ℝ) : EReal)

def algebraic_KernelIdeal_ReferenceIdeal_pre_queue_finite [hKernelIdeal : Cert.KernelIdeal.Facts] [hReferenceIdeal : Cert.ReferenceIdeal.Facts] [hPre_queue_finite : Cert.Pre_queue_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queue_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_near_guarded_pre_queue_short [hKernelIdeal : Cert.KernelIdeal.Facts] [hPre_queue_short : Cert.Pre_queue_short.Facts] [hPost_near_guarded : Cert.Post_near_guarded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queue_short m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_near_guarded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v3))) = (fun _ => 1#1))

def Claim : Prop :=
  ∃ (hKernel : Cert.Kernel.Facts) (hKernelIdeal : Cert.KernelIdeal.Facts) (hReferenceIdeal : Cert.ReferenceIdeal.Facts) (hPre_queue_finite : Cert.Pre_queue_finite.Facts) (hPre_queue_short : Cert.Pre_queue_short.Facts) (hPost_near_guarded : Cert.Post_near_guarded.Facts),
    quiescent_Kernel (hKernel := hKernel)
    ∧ quiescent_KernelIdeal (hKernelIdeal := hKernelIdeal)
    ∧ quiescent_KernelIdeal_pre_queue_finite (hKernelIdeal := hKernelIdeal) (hPre_queue_finite := hPre_queue_finite)
    ∧ quiescent_KernelIdeal_pre_queue_short (hKernelIdeal := hKernelIdeal) (hPre_queue_short := hPre_queue_short)
    ∧ quiescent_ReferenceIdeal (hReferenceIdeal := hReferenceIdeal)
    ∧ quiescent_ReferenceIdeal_pre_queue_finite (hReferenceIdeal := hReferenceIdeal) (hPre_queue_finite := hPre_queue_finite)
    ∧ preserves_Kernel_KernelIdeal
    ∧ algebraic_KernelIdeal_ReferenceIdeal_pre_queue_finite (hKernelIdeal := hKernelIdeal) (hReferenceIdeal := hReferenceIdeal) (hPre_queue_finite := hPre_queue_finite)
    ∧ holds_KernelIdeal_near_guarded_pre_queue_short (hKernelIdeal := hKernelIdeal) (hPre_queue_short := hPre_queue_short) (hPost_near_guarded := hPost_near_guarded)
-- ==== Post_near_guarded.lean ====
abbrev S16384x128 : Shape := ⟨2, ![16384, 128]⟩
abbrev S16384x7 : Shape := ⟨2, ![16384, 7]⟩
abbrev S1050x128 : Shape := ⟨2, ![1050, 128]⟩
abbrev S_ : Shape := ⟨0, ![]⟩
abbrev S16384 : Shape := ⟨1, ![16384]⟩
abbrev S16384x1 : Shape := ⟨2, ![16384, 1]⟩
abbrev S128x1050 : Shape := ⟨2, ![128, 1050]⟩
abbrev S16384x1050 : Shape := ⟨2, ![16384, 1050]⟩
abbrev S16384x7x150 : Shape := ⟨3, ![16384, 7, 150]⟩
abbrev S16384x1x1 : Shape := ⟨3, ![16384, 1, 1]⟩
abbrev S1 : Shape := ⟨1, ![1]⟩
abbrev S1x1x1 : Shape := ⟨3, ![1, 1, 1]⟩
abbrev S16384x1x150 : Shape := ⟨3, ![16384, 1, 150]⟩
abbrev S16384x150 : Shape := ⟨2, ![16384, 150]⟩

class Facts : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  reducesTo_S16384x7_S16384_d1 : S16384x7.ReducesTo [1] S16384
  bcast_S_S16384 : S_.BroadcastsInDim S16384 (![] : Fin 0 → Fin S16384.rank)
  transposes_S1050x128_S128x1050_1_0 : S1050x128.Transposes [1, 0] S128x1050
  bcast_S_S16384x1050 : S_.BroadcastsInDim S16384x1050 (![] : Fin 0 → Fin S16384x1050.rank)
  reducesTo_S16384x1050_S16384_d1 : S16384x1050.ReducesTo [1] S16384
  shapeCasts_S16384x1050_S16384x7x150 : S16384x1050.ShapeCasts S16384x7x150
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  bcast_S16384x1_S16384x1x150_0_1 : S16384x1.BroadcastsInDim S16384x1x150 (![0, 1] : Fin 2 → Fin S16384x1x150.rank)
  bcast_S_S16384x1x150 : S_.BroadcastsInDim S16384x1x150 (![] : Fin 0 → Fin S16384x1x150.rank)
  shapeCasts_S16384x1x150_S16384x150 : S16384x1x150.ShapeCasts S16384x150
  bcast_S16384x1_S16384x150_0_1 : S16384x1.BroadcastsInDim S16384x150 (![0, 1] : Fin 2 → Fin S16384x150.rank)
  bcast_S_S16384x150 : S_.BroadcastsInDim S16384x150 (![] : Fin 0 → Fin S16384x150.rank)
  reducesTo_S16384x150_S16384_d1 : S16384x150.ReducesTo [1] S16384
  reducesTo_S16384_S_d0 : S16384.ReducesTo [0] S_
  dot_S16384x128_S128x1050_S16384x1050_1_0_0_1_n_n_wf : DotDims.WF S16384x128 S128x1050 S16384x1050 [1] [0] [0] [1] [] []
  gather_S16384x7x150_S16384x1x1_S16384x1x150_2_1_0_0_1_2_11150_wf : GatherDims.WF S16384x7x150 S16384x1x1 S16384x1x150 [2] [1] [0] [1] [0] 2 ![1, 1, 150]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S16384x128_S128x1050_S16384x1050_1_0_0_1_n_n : DotDims S16384x128 S128x1050 S16384x1050 where
  lhsContracting := [1]
  rhsContracting := [0]
  lhsNonContracting := [0]
  rhsNonContracting := [1]
  lhsBatch := []
  rhsBatch := []
  wf := dot_S16384x128_S128x1050_S16384x1050_1_0_0_1_n_n_wf
def gather_S16384x7x150_S16384x1x1_S16384x1x150_2_1_0_0_1_2_11150 : GatherDims S16384x7x150 S16384x1x1 S16384x1x150 where
  offsetDims := [2]
  collapsedSliceDims := [1]
  operandBatchingDims := [0]
  startIndicesBatchingDims := [0]
  startIndexMap := [1]
  indexVectorDim := 2
  sliceSizes := ![1, 1, 150]
  wf := gather_S16384x7x150_S16384x1x1_S16384x1x150_2_1_0_0_1_2_11150_wf

def fn_norm {F : FTy → Type} [FloatOps F] (arg0 : FVec F S16384x128 .f32) : FVec F S16384x1 .f32 :=
  let v0 : FVec F S16384x128 .f32 := mulf arg0 arg0
  let cst : FVec F S_ .f32 := constant S_ .f32 0x00000000#32
  let v1 : FVec F S16384 .f32 := (fun x v => Host.reduceAdd x v reducesTo_S16384x128_S16384_d1 h_S_) v0 cst
  let v2 : FVec F S16384x1 .f32 := broadcastInDim S16384x1 ![0] bcast_S16384_S16384x1_0 v1
  let v3 : FVec F S16384x1 .f32 := Host.sqrt v2
  v3

def fn_argmax {F : FTy → Type} [FloatOps F] (arg0 : FVec F S16384x7 .f32) : IVec S16384 32 :=
  let v0 : IVec S16384x7 32 := iotaInDim S16384x7 32 1
  let cst : FVec F S_ .f32 := constant S_ .f32 0xFF800000#32
  let c : IVec S_ 32 := constantI S_ 32 0#32
  let v1_0 : FVec F S16384 .f32 := (fun x y u v j => (Host.argReduce reducer_argmax_f32_i32 x y u v reducesTo_S16384x7_S16384_d1 h_S_ j).1) arg0 v0 cst c
  let v1_1 : IVec S16384 32 := (fun x y u v j => (Host.argReduce reducer_argmax_f32_i32 x y u v reducesTo_S16384x7_S16384_d1 h_S_ j).2) arg0 v0 cst c
  v1_1

def fn_take_along_axis {F : FTy → Type} [FloatOps F] (arg0 : FVec F S16384x7x150 .f32) (arg1 : IVec S16384x1x1 32) : FVec F S16384x1x150 .f32 :=
  let c : IVec S_ 32 := constantI S_ 32 0#32
  let v0 : IVec S16384x1x1 32 := broadcastInDim S16384x1x1 ![] bcast_S_S16384x1x1 c
  let v1 : IVec S16384x1x1 1 := cmpi .slt arg1 v0
  let c_0 : IVec S_ 32 := constantI S_ 32 7#32
  let v2 : IVec S16384x1x1 32 := broadcastInDim S16384x1x1 ![] bcast_S_S16384x1x1 c_0
  let v3 : IVec S16384x1x1 32 := addi arg1 v2
  let v4 : IVec S16384x1x1 32 := select v1 v3 arg1
  let c_1 : IVec S1 32 := constantI S1 32 6#32
  let c_2 : IVec S_ 32 := constantI S_ 32 0#32
  let v5 : IVec S16384x1x1 32 := broadcastInDim S16384x1x1 ![] bcast_S_S16384x1x1 c_2
  let v6 : IVec S16384x1x1 1 := cmpi .sge v4 v5
  let v7 : IVec S1x1x1 32 := broadcastInDim S1x1x1 ![2] bcast_S1_S1x1x1_2 c_1
  let v8 : IVec S16384x1x1 32 := broadcastInDim S16384x1x1 ![0, 1, 2] bcast_S1x1x1_S16384x1x1_0_1_2 v7
  let v9 : IVec S16384x1x1 1 := cmpi .sle v4 v8
  let v10 : IVec S16384x1x1 1 := andi v6 v9
  let c_3 : IVec S_ 1 := constantI S_ 1 1#1
  let v11 : IVec S16384x1 1 := (fun x v => Host.reduce IntOp.andi x v reducesTo_S16384x1x1_S16384x1_d2 h_S_) v10 c_3
  let v12 : FVec F S16384x1x150 .f32 := (fun x i => Host.gather gather_S16384x7x150_S16384x1x1_S16384x1x150_2_1_0_0_1_2_11150 x i) arg0 v4
  let v13 : IVec S16384x1x150 1 := broadcastInDim S16384x1x150 ![0, 1] bcast_S16384x1_S16384x1x150_0_1 v11
  let cst : FVec F S_ .f32 := constant S_ .f32 0x7FC00000#32
  let v14 : FVec F S16384x1x150 .f32 := broadcastInDim S16384x1x150 ![] bcast_S_S16384x1x150 cst
  let v15 : FVec F S16384x1x150 .f32 := select v13 v12 v14
  v15

def fn_part2 {F : FTy → Type} [FloatOps F] (main_arg4 : FVec F S_ .f32) (main_v34 : FVec F S16384 .f32) (main_v38 : FVec F S16384x150 .f32) (main_cst_7 : FVec F S_ .f32) : IVec S_ 1 :=
  let main_v39 : FVec F S16384 .f32 := (fun x v => Host.reduceAdd x v reducesTo_S16384x150_S16384_d1 h_S_) main_v38 main_cst_7
  let main_v40 : FVec F S16384 .f32 := addf main_v34 main_v39
  let main_cst_8 : FVec F S_ .f32 := constant S_ .f32 0x43170000#32
  let main_v41 : FVec F S16384 .f32 := broadcastInDim S16384 ![] bcast_S_S16384 main_cst_8
  let main_v42 : FVec F S16384 .f32 := Host.divf main_v40 main_v41
  let main_cst_9 : FVec F S_ .f32 := constant S_ .f32 0x00000000#32
  let main_v43 : FVec F S_ .f32 := (fun x v => Host.reduceAdd x v reducesTo_S16384_S_d0 h_S_) main_v42 main_cst_9
  let main_cst_10 : FVec F S_ .f32 := constant S_ .f32 0x46800000#32
  let main_v44 : FVec F S_ .f32 := Host.divf main_v43 main_cst_10
  let main_v45 : IVec S_ 1 := cmpf .ole main_v44 main_arg4
  let main_cst_11 : FVec F S_ .f32 := constant S_ .f32 0x3A1D4952#32
  let main_v46 : FVec F S_ .f32 := addf main_v44 main_cst_11
  let main_v47 : IVec S_ 1 := cmpf .ole main_arg4 main_v46
  let main_v48 : IVec S_ 1 := andi main_v45 main_v47
  main_v48

def fn_part1 {F : FTy → Type} [FloatOps F] (main_arg4 : FVec F S_ .f32) (main_v10 : IVec S16384 32) (main_v15 : FVec F S16384 .f32) (main_v17 : FVec F S16384x1050 .f32) (main_v18 : FVec F S16384x1050 .f32) : IVec S_ 1 :=
  let main_v19 : FVec F S16384x1050 .f32 := Host.divf main_v17 main_v18
  let main_v20 : FVec F S16384x1050 .f32 := Host.exp main_v19
  let main_cst_4 : FVec F S_ .f32 := constant S_ .f32 0x00000000#32
  let main_v21 : FVec F S16384 .f32 := (fun x v => Host.reduceAdd x v reducesTo_S16384x1050_S16384_d1 h_S_) main_v20 main_cst_4
  let main_v22 : FVec F S16384x7x150 .f32 := shapeCast S16384x7x150 main_v20 shapeCasts_S16384x1050_S16384x7x150
  let main_v23 : IVec S16384x1x1 32 := broadcastInDim S16384x1x1 ![0] bcast_S16384_S16384x1x1_0 main_v10
  let main_v24 : FVec F S16384x1x150 .f32 := fn_take_along_axis (F := F) main_v22 main_v23
  let main_v25 : FVec F S16384x150 .f32 := shapeCast S16384x150 main_v24 shapeCasts_S16384x1x150_S16384x150
  let main_v26 : FVec F S16384 .f32 := addf main_v15 main_v21
  let main_v27 : FVec F S16384 .f32 := Host.divf main_v15 main_v26
  let main_v28 : FVec F S16384x1 .f32 := broadcastInDim S16384x1 ![0] bcast_S16384_S16384x1_0 main_v26
  let main_v29 : FVec F S16384x150 .f32 := broadcastInDim S16384x150 ![0, 1] bcast_S16384x1_S16384x150_0_1 main_v28
  let main_v30 : FVec F S16384x150 .f32 := Host.divf main_v25 main_v29
  let main_cst_5 : FVec F S_ .f32 := constant S_ .f32 0x322BCC77#32
  let main_v31 : FVec F S16384 .f32 := broadcastInDim S16384 ![] bcast_S_S16384 main_cst_5
  let main_v32 : FVec F S16384 .f32 := addf main_v27 main_v31
  let main_v33 : FVec F S16384 .f32 := Host.log main_v32
  let main_v34 : FVec F S16384 .f32 := Host.negf main_v33
  let main_cst_6 : FVec F S_ .f32 := constant S_ .f32 0x322BCC77#32
  let main_v35 : FVec F S16384x150 .f32 := broadcastInDim S16384x150 ![] bcast_S_S16384x150 main_cst_6
  let main_v36 : FVec F S16384x150 .f32 := addf main_v30 main_v35
  let main_v37 : FVec F S16384x150 .f32 := Host.log main_v36
  let main_v38 : FVec F S16384x150 .f32 := Host.negf main_v37
  let main_cst_7 : FVec F S_ .f32 := constant S_ .f32 0x00000000#32
  fn_part2 (F := F) main_arg4 main_v34 main_v38 main_cst_7

def fn {F : FTy → Type} [FloatOps F] (main_arg0 : FVec F S16384x128 .f32) (main_arg1 : FVec F S16384x128 .f32) (main_arg2 : FVec F S16384x7 .f32) (main_arg3 : FVec F S1050x128 .f32) (main_arg4 : FVec F S_ .f32) : IVec S_ 1 :=
  let main_v0 : FVec F S16384x1 .f32 := fn_norm (F := F) main_arg0
  let main_cst : FVec F S_ .f32 := constant S_ .f32 0x2B8CBCCC#32
  let main_v1 : FVec F S16384x1 .f32 := broadcastInDim S16384x1 ![] bcast_S_S16384x1 main_cst
  let main_v2 : FVec F S16384x1 .f32 := maximumf main_v0 main_v1
  let main_v3 : FVec F S16384x128 .f32 := broadcastInDim S16384x128 ![0, 1] bcast_S16384x1_S16384x128_0_1 main_v2
  let main_v4 : FVec F S16384x128 .f32 := Host.divf main_arg0 main_v3
  let main_v5 : FVec F S16384x1 .f32 := fn_norm (F := F) main_arg1
  let main_cst_0 : FVec F S_ .f32 := constant S_ .f32 0x2B8CBCCC#32
  let main_v6 : FVec F S16384x1 .f32 := broadcastInDim S16384x1 ![] bcast_S_S16384x1 main_cst_0
  let main_v7 : FVec F S16384x1 .f32 := maximumf main_v5 main_v6
  let main_v8 : FVec F S16384x128 .f32 := broadcastInDim S16384x128 ![0, 1] bcast_S16384x1_S16384x128_0_1 main_v7
  let main_v9 : FVec F S16384x128 .f32 := Host.divf main_arg1 main_v8
  let main_v10 : IVec S16384 32 := fn_argmax (F := F) main_arg2
  let main_v11 : FVec F S16384x128 .f32 := mulf main_v4 main_v9
  let main_cst_1 : FVec F S_ .f32 := constant S_ .f32 0x00000000#32
  let main_v12 : FVec F S16384 .f32 := (fun x v => Host.reduceAdd x v reducesTo_S16384x128_S16384_d1 h_S_) main_v11 main_cst_1
  let main_cst_2 : FVec F S_ .f32 := constant S_ .f32 0x3F000000#32
  let main_v13 : FVec F S16384 .f32 := broadcastInDim S16384 ![] bcast_S_S16384 main_cst_2
  let main_v14 : FVec F S16384 .f32 := Host.divf main_v12 main_v13
  let main_v15 : FVec F S16384 .f32 := Host.exp main_v14
  let main_v16 : FVec F S128x1050 .f32 := (transpose S128x1050 [1, 0] · transposes_S1050x128_S128x1050_1_0) main_arg3
  let main_v17 : FVec F S16384x1050 .f32 := (fun l r => Host.dotGeneral dot_S16384x128_S128x1050_S16384x1050_1_0_0_1_n_n none l r) main_v4 main_v16
  let main_cst_3 : FVec F S_ .f32 := constant S_ .f32 0x3F000000#32
  let main_v18 : FVec F S16384x1050 .f32 := broadcastInDim S16384x1050 ![] bcast_S_S16384x1050 main_cst_3
  fn_part1 (F := F) main_arg4 main_v10 main_v15 main_v17 main_v18
-- ==== Pre_queue_finite.lean ====
abbrev S16384x128 : Shape := ⟨2, ![16384, 128]⟩
abbrev S16384x7 : Shape := ⟨2, ![16384, 7]⟩
abbrev S1050x128 : Shape := ⟨2, ![1050, 128]⟩
abbrev S_ : Shape := ⟨0, ![]⟩

class Facts : Prop where
  bcast_S_S1050x128 : S_.BroadcastsInDim S1050x128 (![] : Fin 0 → Fin S1050x128.rank)

variable [Facts]

def fn {F : FTy → Type} [FloatOps F] (main_arg0 : FVec F S16384x128 .f32) (main_arg1 : FVec F S16384x128 .f32) (main_arg2 : FVec F S16384x7 .f32) (main_arg3 : FVec F S1050x128 .f32) : IVec S1050x128 1 :=
  let main_v0 : FVec F S1050x128 .f32 := Host.absf main_arg3
  let main_cst : FVec F S_ .f32 := constant S_ .f32 0x7F800000#32
  let main_v1 : FVec F S1050x128 .f32 := broadcastInDim S1050x128 ![] bcast_S_S1050x128 main_cst
  let main_v2 : IVec S1050x128 1 := cmpf .olt main_v0 main_v1
  main_v2
-- ==== Pre_queue_short.lean ====
abbrev S16384x128 : Shape := ⟨2, ![16384, 128]⟩
abbrev S16384x7 : Shape := ⟨2, ![16384, 7]⟩
abbrev S1050x128 : Shape := ⟨2, ![1050, 128]⟩
abbrev S_ : Shape := ⟨0, ![]⟩
abbrev S1050 : Shape := ⟨1, ![1050]⟩

class Facts : Prop where
  reducesTo_S1050x128_S1050_d1 : S1050x128.ReducesTo [1] S1050
  h_S_ : 0 < S_.numel
  bcast_S_S1050 : S_.BroadcastsInDim S1050 (![] : Fin 0 → Fin S1050.rank)

variable [Facts]

def fn {F : FTy → Type} [FloatOps F] (main_arg0 : FVec F S16384x128 .f32) (main_arg1 : FVec F S16384x128 .f32) (main_arg2 : FVec F S16384x7 .f32) (main_arg3 : FVec F S1050x128 .f32) : IVec S1050 1 :=
  let main_v0 : FVec F S1050x128 .f32 := mulf main_arg3 main_arg3
  let main_cst : FVec F S_ .f32 := constant S_ .f32 0x00000000#32
  let main_v1 : FVec F S1050 .f32 := (fun x v => Host.reduceAdd x v reducesTo_S1050x128_S1050_d1 h_S_) main_v0 main_cst
  let main_cst_0 : FVec F S_ .f32 := constant S_ .f32 0x3F8147AE#32
  let main_v2 : FVec F S1050 .f32 := broadcastInDim S1050 ![] bcast_S_S1050 main_cst_0
  let main_v3 : IVec S1050 1 := cmpf .ole main_v1 main_v2
  main_v3
-- ==== Kernel.lean ====
abbrev S16384x128 : Shape := ⟨2, ![16384, 128]⟩
abbrev S16384x7 : Shape := ⟨2, ![16384, 7]⟩
abbrev S1050x128 : Shape := ⟨2, ![1050, 128]⟩
abbrev S1050x8 : Shape := ⟨2, ![1050, 8]⟩
abbrev S7x16384 : Shape := ⟨2, ![7, 16384]⟩
abbrev S1x1 : Shape := ⟨2, ![1, 1]⟩
abbrev S4096x128 : Shape := ⟨2, ![4096, 128]⟩
abbrev S7x4096 : Shape := ⟨2, ![7, 4096]⟩
abbrev S1x128 : Shape := ⟨2, ![1, 128]⟩
abbrev S1x4096 : Shape := ⟨2, ![1, 4096]⟩
abbrev S1050x4096 : Shape := ⟨2, ![1050, 4096]⟩
abbrev S4096 : Shape := ⟨1, ![4096]⟩
abbrev S8x4096 : Shape := ⟨2, ![8, 4096]⟩
abbrev S8x128 : Shape := ⟨2, ![8, 128]⟩
abbrev S1x1x4096 : Shape := ⟨3, ![1, 1, 4096]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 8
  | .smem => 1
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x7, .f32⟩
  | .hbm, ⟨3, _⟩ => ⟨S1050x128, .f32⟩
  | .hbm, ⟨4, _⟩ => ⟨S1050x8, .bf16⟩
  | .hbm, ⟨5, _⟩ => ⟨S7x16384, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S7x4096, .f32⟩
  | .local _ .vmem, ⟨5, _⟩ => ⟨S7x4096, .f32⟩
  | .local _ .vmem, ⟨6, _⟩ => ⟨S1050x128, .f32⟩
  | .local _ .vmem, ⟨7, _⟩ => ⟨S1050x8, .bf16⟩
  | .local _ .smem, ⟨0, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1050x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1050x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "c_scale" => some ((((1 / 2) * (Real.log 2)) * ((1 / 2) * (Real.log 2)) : ℝ) : EReal)
  | "floor_sq" => some ((5316911940649 / 5316911983139663491615228241121378304 : ℝ) : EReal)
  | "floor_sq_c" => some (((5316911940649 / 5316911983139663491615228241121378304) * (((1 / 2) * (Real.log 2)) * ((1 / 2) * (Real.log 2))) : ℝ) : EReal)
  | "inv_ln2" => some (((Real.log 2)⁻¹ : ℝ) : EReal)
  | "ln2_mean" => some (((Real.log 2) * (1 / 151) : ℝ) : EReal)
  | _ => none
-- ==== ReferenceIdeal.lean ====
abbrev S16384x128 : Shape := ⟨2, ![16384, 128]⟩
abbrev S16384x7 : Shape := ⟨2, ![16384, 7]⟩
abbrev S1050x128 : Shape := ⟨2, ![1050, 128]⟩
abbrev S_ : Shape := ⟨0, ![]⟩
abbrev S16384 : Shape := ⟨1, ![16384]⟩
abbrev S16384x1 : Shape := ⟨2, ![16384, 1]⟩
abbrev S128x1050 : Shape := ⟨2, ![128, 1050]⟩
abbrev S16384x1050 : Shape := ⟨2, ![16384, 1050]⟩
abbrev S16384x7x150 : Shape := ⟨3, ![16384, 7, 150]⟩
abbrev S16384x1x1 : Shape := ⟨3, ![16384, 1, 1]⟩
abbrev S1 : Shape := ⟨1, ![1]⟩
abbrev S1x1x1 : Shape := ⟨3, ![1, 1, 1]⟩
abbrev S16384x1x150 : Shape := ⟨3, ![16384, 1, 150]⟩
abbrev S16384x150 : Shape := ⟨2, ![16384, 150]⟩

abbrev nBuf : Space → Nat
  | .hbm => 88
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x7, .f32⟩
  | .hbm, ⟨3, _⟩ => ⟨S1050x128, .f32⟩
  | .hbm, ⟨4, _⟩ => ⟨S16384x128, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x128, .f32⟩
  | .hbm, ⟨23, _⟩ => ⟨S16384x128, .f32⟩
  | .hbm, ⟨24, _⟩ => ⟨S16384x7, .i32⟩
  | .hbm, ⟨25, _⟩ => ⟨S_, .f32⟩
  | .hbm, ⟨26, _⟩ => ⟨S_, .i32⟩
  | .hbm, ⟨27, _⟩ => ⟨S16384, .f32⟩
  | .hbm, ⟨28, _⟩ => ⟨S16384, .i32⟩
  | .hbm, ⟨29, _⟩ => ⟨S16384x128, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S128x1050, .f32⟩
  | .hbm, ⟨37, _⟩ => ⟨S16384x1050, .f32⟩
  | .hbm, ⟨38, _⟩ => ⟨S_, .f32⟩
  | .hbm, ⟨39, _⟩ => ⟨S16384x1050, .f32⟩
  | .hbm, ⟨40, _⟩ => ⟨S16384x1050, .f32⟩
  | .hbm, ⟨41, _⟩ => ⟨S16384x1050, .f32⟩
  | .hbm, ⟨42, _⟩ => ⟨S_, .f32⟩
  | .hbm, ⟨43, _⟩ => ⟨S16384, .f32⟩
  | .hbm, ⟨44, _⟩ => ⟨S16384x7x150, .f32⟩
  | .hbm, ⟨45, _⟩ => ⟨S16384x1x1, .i32⟩
  | .hbm, ⟨46, _⟩ => ⟨S_, .i32⟩
  | .hbm, ⟨47, _⟩ => ⟨S16384x1x1, .i32⟩
  | .hbm, ⟨48, _⟩ => ⟨S16384x1x1, .i1⟩
  | .hbm, ⟨49, _⟩ => ⟨S_, .i32⟩
  | .hbm, ⟨50, _⟩ => ⟨S16384x1x1, .i32⟩
  | .hbm, ⟨51, _⟩ => ⟨S16384x1x1, .i32⟩
  | .hbm, ⟨52, _⟩ => ⟨S16384x1x1, .i32⟩
  | .hbm, ⟨53, _⟩ => ⟨S1, .i32⟩
  | .hbm, ⟨54, _⟩ => ⟨S_, .i32⟩
  | .hbm, ⟨55, _⟩ => ⟨S16384x1x1, .i32⟩
  | .hbm, ⟨56, _⟩ => ⟨S16384x1x1, .i1⟩
  | .hbm, ⟨57, _⟩ => ⟨S1x1x1, .i32⟩
  | .hbm, ⟨58, _⟩ => ⟨S16384x1x1, .i32⟩
  | .hbm, ⟨59, _⟩ => ⟨S16384x1x1, .i1⟩
  | .hbm, ⟨60, _⟩ => ⟨S16384x1x1, .i1⟩
  | .hbm, ⟨61, _⟩ => ⟨S_, .i1⟩
  | .hbm, ⟨62, _⟩ => ⟨S16384x1, .i1⟩
  | .hbm, ⟨63, _⟩ => ⟨S16384x1x150, .f32⟩
  | .hbm, ⟨64, _⟩ => ⟨S16384x1x150, .i1⟩
  | .hbm, ⟨65, _⟩ => ⟨S_, .f32⟩
  | .hbm, ⟨66, _⟩ => ⟨S16384x1x150, .f32⟩
  | .hbm, ⟨67, _⟩ => ⟨S16384x1x150, .f32⟩
  | .hbm, ⟨68, _⟩ => ⟨S16384x150, .f32⟩
  | .hbm, ⟨69, _⟩ => ⟨S16384, .f32⟩
  | .hbm, ⟨70, _⟩ => ⟨S16384, .f32⟩
  | .hbm, ⟨71, _⟩ => ⟨S16384x1, .f32⟩
  | .hbm, ⟨72, _⟩ => ⟨S16384x150, .f32⟩
  | .hbm, ⟨73, _⟩ => ⟨S16384x150, .f32⟩
  | .hbm, ⟨74, _⟩ => ⟨S16384, .f32⟩
  | .hbm, ⟨75, _⟩ => ⟨S16384, .f32⟩
  | .hbm, ⟨76, _⟩ => ⟨S16384x150, .f32⟩
  | .hbm, ⟨77, _⟩ => ⟨S16384x150, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S_, .f32⟩
  | .hbm, ⟨82, _⟩ => ⟨S16384, .f32⟩
  | .hbm, ⟨83, _⟩ => ⟨S16384, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call2_v0 : Ref sig .tc := ⟨.hbm, 24, rfl⟩
abbrev main_call2_cst : Ref sig .tc := ⟨.hbm, 25, rfl⟩
abbrev main_call2_c : Ref sig .tc := ⟨.hbm, 26, rfl⟩
abbrev main_call2_v1_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_c_2 : Ref sig .tc := ⟨.hbm, 54, rfl⟩
abbrev main_call3_v5 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_c_3 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_cst : Ref sig .tc := ⟨.hbm, 65, rfl⟩
abbrev main_call3_v14 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_5 : Ref sig .tc := ⟨.hbm, 78, rfl⟩
abbrev main_v35 : Ref sig .tc := ⟨.hbm, 79, rfl⟩
abbrev main_v36 : Ref sig .tc := ⟨.hbm, 80, rfl⟩
abbrev main_cst_6 : Ref sig .tc := ⟨.hbm, 81, rfl⟩
abbrev main_v37 : Ref sig .tc := ⟨.hbm, 82, rfl⟩
abbrev main_v38 : Ref sig .tc := ⟨.hbm, 83, rfl⟩
abbrev main_cst_7 : Ref sig .tc := ⟨.hbm, 84, rfl⟩
abbrev main_v39 : Ref sig .tc := ⟨.hbm, 85, rfl⟩
abbrev main_cst_8 : Ref sig .tc := ⟨.hbm, 86, rfl⟩
abbrev main_v40 : Ref sig .tc := ⟨.hbm, 87, rfl⟩

abbrev nD : Nat := 1
abbrev τ : Topo := Topo.v7x

variable {F : FTy → Type} [FloatOps F]
-- ==== Proof.RefRun.lean ====
/- The run of the reference. Its @main is a line of host operations; this module lists them (a called function's
   operations standing in the call's place), reads the run of the list, and states the result buffer as one function
   `refOut` of the four arguments, built in the stages the reference's text has: the normalised rows `feat`, the
   similarity of a row with its twin `lpos`, the similarities with the queue `sims`, the class `label`, the class's
   block `posv`, the denominator `den`, the loss. The value claim reads `refOut` over the extended reals. -/
module

public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## What the reference computes, in stages -/

/-- The row norms, floored: one column. -/
def normCol (a : FVec F S16384x128 .f32) : FVec F S16384x1 .f32 :=
  maximumf (Host.sqrt (broadcastInDim S16384x1 ![0] bcast_S16384_S16384x1_0
      (Host.reduceAdd (mulf a a) (constant S_ .f32 0x00000000#32) reducesTo_S16384x128_S16384_d1 h_S_)))
    (broadcastInDim S16384x1 ![] bcast_S_S16384x1 (constant S_ .f32 0x2B8CBCCC#32))

/-- The normalised rows. -/
def feat (a : FVec F S16384x128 .f32) : FVec F S16384x128 .f32 :=
  Host.divf a (broadcastInDim S16384x128 ![0, 1] bcast_S16384x1_S16384x128_0_1 (normCol a))

/-- The class of each row: the first index of the largest of the seven scores. -/
def label (p : FVec F S16384x7 .f32) : IVec S16384 32 :=
  fun j => (Host.argReduce reducer_argmax_f32_i32 p (iotaInDim S16384x7 32 1) (constant S_ .f32 0xFF800000#32)
    (constantI S_ 32 0#32) reducesTo_S16384x7_S16384_d1 h_S_ j).2

/-- The similarity of each row with its twin. -/
def lpos (f g : FVec F S16384x128 .f32) : FVec F S16384 .f32 :=
  Host.exp (Host.divf (Host.reduceAdd (mulf f g) (constant S_ .f32 0x00000000#32) reducesTo_S16384x128_S16384_d1 h_S_)
    (broadcastInDim S16384 ![] bcast_S_S16384 (constant S_ .f32 0x3F000000#32)))

/-- The similarities of each row with the queue's rows. -/
def sims (f : FVec F S16384x128 .f32) (q : FVec F S1050x128 .f32) : FVec F S16384x1050 .f32 :=
  Host.exp (Host.divf (Host.dotGeneral dot_S16384x128_S128x1050_S16384x1050_1_0_0_1_n_n none f
      (transpose S128x1050 [1, 0] q transposes_S1050x128_S128x1050_1_0))
    (broadcastInDim S16384x1050 ![] bcast_S_S16384x1050 (constant S_ .f32 0x3F000000#32)))

/-- The class as an index column, a negative one read from the end. -/
def idx (l : IVec S16384 32) : IVec S16384x1x1 32 :=
  select (cmpi .slt (broadcastInDim S16384x1x1 ![0] bcast_S16384_S16384x1x1_0 l)
      (broadcastInDim S16384x1x1 ![] bcast_S_S16384x1x1 (constantI S_ 32 0#32)))
    (addi (broadcastInDim S16384x1x1 ![0] bcast_S16384_S16384x1x1_0 l)
      (broadcastInDim S16384x1x1 ![] bcast_S_S16384x1x1 (constantI S_ 32 7#32)))
    (broadcastInDim S16384x1x1 ![0] bcast_S16384_S16384x1x1_0 l)

/-- Whether the index column is in range. -/
def inRange (l : IVec S16384 32) : IVec S16384x1 1 :=
  Host.reduce IntOp.andi
    (andi (cmpi .sge (idx l) (broadcastInDim S16384x1x1 ![] bcast_S_S16384x1x1 (constantI S_ 32 0#32)))
      (cmpi .sle (idx l) (broadcastInDim S16384x1x1 ![0, 1, 2] bcast_S1x1x1_S16384x1x1_0_1_2
        (broadcastInDim S1x1x1 ![2] bcast_S1_S1x1x1_2 (constantI S1 32 6#32)))))
    (constantI S_ 1 1#1) reducesTo_S16384x1x1_S16384x1_d2 h_S_

/-- The block of the similarities that belongs to the row's class. -/
def posv (s : FVec F S16384x1050 .f32) (l : IVec S16384 32) : FVec F S16384x150 .f32 :=
  shapeCast S16384x150 (select (broadcastInDim S16384x1x150 ![0, 1] bcast_S16384x1_S16384x1x150_0_1 (inRange l))
      (Host.gather gather_S16384x7x150_S16384x1x1_S16384x1x150_2_1_0_0_1_2_11150
        (shapeCast S16384x7x150 s shapeCasts_S16384x1050_S16384x7x150) (idx l))
      (broadcastInDim S16384x1x150 ![] bcast_S_S16384x1x150 (constant S_ .f32 0x7FC00000#32)))
    shapeCasts_S16384x1x150_S16384x150

/-- The denominator of each row. -/
def den (lp : FVec F S16384 .f32) (s : FVec F S16384x1050 .f32) : FVec F S16384 .f32 :=
  addf lp (Host.reduceAdd s (constant S_ .f32 0x00000000#32) reducesTo_S16384x1050_S16384_d1 h_S_)

/-- The loss of each row. -/
def rowLoss (lp : FVec F S16384 .f32) (pv : FVec F S16384x150 .f32) (d : FVec F S16384 .f32) : FVec F S16384 .f32 :=
  Host.divf (addf (Host.negf (Host.log (Host.divf lp d)))
      (Host.reduceAdd (Host.negf (Host.log (Host.divf pv (broadcastInDim S16384x150 ![0, 1] bcast_S16384x1_S16384x150_0_1
        (broadcastInDim S16384x1 ![0] bcast_S16384_S16384x1_0 d)))))
        (constant S_ .f32 0x00000000#32) reducesTo_S16384x150_S16384_d1 h_S_))
    (broadcastInDim S16384 ![] bcast_S_S16384 (constant S_ .f32 0x43170000#32))

/-- The mean of the rows' losses. -/
def mean (x : FVec F S16384 .f32) : FVec F S_ .f32 :=
  Host.divf (Host.reduceAdd x (constant S_ .f32 0x00000000#32) reducesTo_S16384_S_d0 h_S_) (constant S_ .f32 0x46800000#32)

/-- The reference's result, of the four arguments. -/
def refOut (a e : FVec F S16384x128 .f32) (p : FVec F S16384x7 .f32) (q : FVec F S1050x128 .f32) : FVec F S_ .f32 :=
  mean (rowLoss (lpos (feat a) (feat e)) (posv (sims (feat a) q) (label p)) (den (lpos (feat a) (feat e)) (sims (feat a) q)))

/-! ## The run -/

/-- @main's 84 operations, in order. -/
abbrev ops : List (HloOp τ sig (Elt F)) :=
  [ TRef.binary (TRef.of (T := ⟨S16384x128, .f32⟩) main_arg0) (TRef.of (T := ⟨S16384x128, .f32⟩) main_arg0) (TRef.of (T := ⟨S16384x128, .f32⟩) main_call0_v0) mulf,
    TRef.nullary (TRef.of (T := ⟨S_, .f32⟩) main_call0_cst) (constant S_ .f32 0x00000000#32),
    TRef.binary (TRef.of (T := ⟨S16384x128, .f32⟩) main_call0_v0) (TRef.of (T := ⟨S_, .f32⟩) main_call0_cst) (TRef.of (T := ⟨S16384, .f32⟩) main_call0_v1) (fun x v => Host.reduceAdd x v reducesTo_S16384x128_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v0) Host.sqrt,
    nullary main_cst (constant S_ .f32 0x2B8CBCCC#32),
    unary main_cst main_v1 (broadcastInDim S16384x1 ![] bcast_S_S16384x1 : (⟨S_, .f32⟩ : BufTy).Contents (Elt F) → (⟨S16384x1, .f32⟩ : BufTy).Contents (Elt F)),
    binary main_v0 main_v1 main_v2 (maximumf : (⟨S16384x1, .f32⟩ : BufTy).Contents (Elt F) → (⟨S16384x1, .f32⟩ : BufTy).Contents (Elt F) → (⟨S16384x1, .f32⟩ : BufTy).Contents (Elt F)),
    unary main_v2 main_v3 (broadcastInDim S16384x128 ![0, 1] bcast_S16384x1_S16384x128_0_1 : (⟨S16384x1, .f32⟩ : BufTy).Contents (Elt F) → (⟨S16384x128, .f32⟩ : BufTy).Contents (Elt F)),
    binary main_arg0 main_v3 main_v4 (Host.divf : (⟨S16384x128, .f32⟩ : BufTy).Contents (Elt F) → (⟨S16384x128, .f32⟩ : BufTy).Contents (Elt F) → (⟨S16384x128, .f32⟩ : BufTy).Contents (Elt F)),
    TRef.binary (TRef.of (T := ⟨S16384x128, .f32⟩) main_arg1) (TRef.of (T := ⟨S16384x128, .f32⟩) main_arg1) (TRef.of (T := ⟨S16384x128, .f32⟩) main_call1_v0) mulf,
    TRef.nullary (TRef.of (T := ⟨S_, .f32⟩) main_call1_cst) (constant S_ .f32 0x00000000#32),
    TRef.binary (TRef.of (T := ⟨S16384x128, .f32⟩) main_call1_v0) (TRef.of (T := ⟨S_, .f32⟩) main_call1_cst) (TRef.of (T := ⟨S16384, .f32⟩) main_call1_v1) (fun x v => Host.reduceAdd x v reducesTo_S16384x128_S16384_d1 h_S_),
    TRef.unary (TRef.of (T := ⟨S16384, .f32⟩) main_call1_v1) (TRef.of (T := ⟨S16384x1, .f32⟩) main_call1_v2) (broadcastInDim S16384x1 ![0] bcast_S16384_S16384x1_0),
    TRef.unary (TRef.of (T := ⟨S16384x1, .f32⟩) main_call1_v2) (TRef.of (T := ⟨S16384x1, .f32⟩) main_v5) Host.sqrt,
    nullary main_cst_0 (constant S_ .f32 0x2B8CBCCC#32),
    unary main_cst_0 main_v6 (broadcastInDim S16384x1 ![] bcast_S_S16384x1 : (⟨S_, .f32⟩ : BufTy).Contents (Elt F) → (⟨S16384x1, .f32⟩ : BufTy).Contents (Elt F)),
    binary main_v5 main_v6 main_v7 (maximumf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x128 ![0, 1] bcast_S16384x1_S16384x128_0_1 : (⟨S16384x1, .f32⟩ : BufTy).Contents (Elt F) → (⟨S16384x128, .f32⟩ : BufTy).Contents (Elt F)),
    binary main_arg1 main_v8 main_v9 (Host.divf : (⟨S16384x128, .f32⟩ : BufTy).Contents (Elt F) → (⟨S16384x128, .f32⟩ : BufTy).Contents (Elt F) → (⟨S16384x128, .f32⟩ : BufTy).Contents (Elt F)),
    TRef.nullary (TRef.of (T := ⟨S16384x7, .i32⟩) main_call2_v0) (iotaInDim S16384x7 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16384x7, .f32⟩) main_arg2) (TRef.of (T := ⟨S16384x7, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmax_f32_i32 x y u v reducesTo_S16384x7_S16384_d1 h_S_ j).1),
    TRef.quaternary (TRef.of (T := ⟨S16384x7, .f32⟩) main_arg2) (TRef.of (T := ⟨S16384x7, .i32⟩) main_call2_v0) (TRef.of (T := ⟨S_, .f32⟩) main_call2_cst) (TRef.of (T := ⟨S_, .i32⟩) main_call2_c) (TRef.of (T := ⟨S16384, .i32⟩) main_v10) (fun x y u v j => (Host.argReduce reducer_argmax_f32_i32 x y u v reducesTo_S16384x7_S16384_d1 h_S_ j).2),
    binary main_v4 main_v9 main_v11 (mulf : (⟨S16384x128, .f32⟩ : BufTy).Contents (Elt F) → (⟨S16384x128, .f32⟩ : BufTy).Contents (Elt F) → (⟨S16384x128, .f32⟩ : BufTy).Contents (Elt F)),
    nullary main_cst_1 (constant S_ .f32 0x00000000#32),
    binary main_v11 main_cst_1 main_v12 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    nullary main_cst_2 (constant S_ .f32 0x3F000000#32),
    unary main_cst_2 main_v13 (broadcastInDim S16384 ![] bcast_S_S16384 : (⟨S_, .f32⟩ : BufTy).Contents (Elt F) → (⟨S16384, .f32⟩ : BufTy).Contents (Elt F)),
    binary main_v12 main_v13 main_v14 (Host.divf : (⟨S16384, .f32⟩ : BufTy).Contents (Elt F) → (⟨S16384, .f32⟩ : BufTy).Contents (Elt F) → (⟨S16384, .f32⟩ : BufTy).Contents (Elt F)),
    unary main_v14 main_v15 (Host.exp : (⟨S16384, .f32⟩ : BufTy).Contents (Elt F) → (⟨S16384, .f32⟩ : BufTy).Contents (Elt F)),
    unary main_arg3 main_v16 ((transpose S128x1050 [1, 0] · transposes_S1050x128_S128x1050_1_0) : (⟨S1050x128, .f32⟩ : BufTy).Contents (Elt F) → (⟨S128x1050, .f32⟩ : BufTy).Contents (Elt F)),
    binary main_v4 main_v16 main_v17 ((fun l r => Host.dotGeneral dot_S16384x128_S128x1050_S16384x1050_1_0_0_1_n_n none l r) : (⟨S16384x128, .f32⟩ : BufTy).Contents (Elt F) → (⟨S128x1050, .f32⟩ : BufTy).Contents (Elt F) → (⟨S16384x1050, .f32⟩ : BufTy).Contents (Elt F)),
    nullary main_cst_3 (constant S_ .f32 0x3F000000#32),
    unary main_cst_3 main_v18 (broadcastInDim S16384x1050 ![] bcast_S_S16384x1050 : (⟨S_, .f32⟩ : BufTy).Contents (Elt F) → (⟨S16384x1050, .f32⟩ : BufTy).Contents (Elt F)),
    binary main_v17 main_v18 main_v19 (Host.divf : (⟨S16384x1050, .f32⟩ : BufTy).Contents (Elt F) → (⟨S16384x1050, .f32⟩ : BufTy).Contents (Elt F) → (⟨S16384x1050, .f32⟩ : BufTy).Contents (Elt F)),
    unary main_v19 main_v20 (Host.exp : (⟨S16384x1050, .f32⟩ : BufTy).Contents (Elt F) → (⟨S16384x1050, .f32⟩ : BufTy).Contents (Elt F)),
    nullary main_cst_4 (constant S_ .f32 0x00000000#32),
    binary main_v20 main_cst_4 main_v21 ((fun x v => Host.reduceAdd x v reducesTo_S16384x1050_S16384_d1 h_S_) : (⟨S16384x1050, .f32⟩ : BufTy).Contents (Elt F) → (⟨S_, .f32⟩ : BufTy).Contents (Elt F) → (⟨S16384, .f32⟩ : BufTy).Contents (Elt F)),
    reshape main_v20 main_v22 (rfl : (.f32 : EltTy) = .f32) shapeCasts_S16384x1050_S16384x7x150,
    unary main_v10 main_v23 (broadcastInDim S16384x1x1 ![0] bcast_S16384_S16384x1x1_0 : (⟨S16384, .i32⟩ : BufTy).Contents (Elt F) → (⟨S16384x1x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S16384x1x1, .i32⟩) main_call3_v0) (broadcastInDim S16384x1x1 ![] bcast_S_S16384x1x1),
    TRef.binary (TRef.of (T := ⟨S16384x1x1, .i32⟩) main_v23) (TRef.of (T := ⟨S16384x1x1, .i32⟩) main_call3_v0) (TRef.of (T := ⟨S16384x1x1, .i1⟩) main_call3_v1) (cmpi .slt),
    TRef.nullary (TRef.of (T := ⟨S_, .i32⟩) main_call3_c_0) (constantI S_ 32 7#32),
    TRef.unary (TRef.of (T := ⟨S_, .i32⟩) main_call3_c_0) (TRef.of (T := ⟨S16384x1x1, .i32⟩) main_call3_v2) (broadcastInDim S16384x1x1 ![] bcast_S_S16384x1x1),
    TRef.binary (TRef.of (T := ⟨S16384x1x1, .i32⟩) main_v23) (TRef.of (T := ⟨S16384x1x1, .i32⟩) main_call3_v2) (TRef.of (T := ⟨S16384x1x1, .i32⟩) main_call3_v3) addi,
    TRef.ternary (TRef.of (T := ⟨S16384x1x1, .i1⟩) main_call3_v1) (TRef.of (T := ⟨S16384x1x1, .i32⟩) main_call3_v3) (TRef.of (T := ⟨S16384x1x1, .i32⟩) main_v23) (TRef.of (T := ⟨S16384x1x1, .i32⟩) main_call3_v4) select,
    TRef.nullary (TRef.of (T := ⟨S1, .i32⟩) main_call3_c_1) (constantI S1 32 6#32),
    TRef.nullary (TRef.of (T := ⟨S_, .i32⟩) main_call3_c_2) (constantI S_ 32 0#32),
    TRef.unary (TRef.of (T := ⟨S_, .i32⟩) main_call3_c_2) (TRef.of (T := ⟨S16384x1x1, .i32⟩) main_call3_v5) (broadcastInDim S16384x1x1 ![] bcast_S_S16384x1x1),
    TRef.binary (TRef.of (T := ⟨S16384x1x1, .i32⟩) main_call3_v4) (TRef.of (T := ⟨S16384x1x1, .i32⟩) main_call3_v5) (TRef.of (T := ⟨S16384x1x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S16384x1x1, .i32⟩) main_call3_v8) (broadcastInDim S16384x1x1 ![0, 1, 2] bcast_S1x1x1_S16384x1x1_0_1_2),
    TRef.binary (TRef.of (T := ⟨S16384x1x1, .i32⟩) main_call3_v4) (TRef.of (T := ⟨S16384x1x1, .i32⟩) main_call3_v8) (TRef.of (T := ⟨S16384x1x1, .i1⟩) main_call3_v9) (cmpi .sle),
    TRef.binary (TRef.of (T := ⟨S16384x1x1, .i1⟩) main_call3_v6) (TRef.of (T := ⟨S16384x1x1, .i1⟩) main_call3_v9) (TRef.of (T := ⟨S16384x1x1, .i1⟩) main_call3_v10) andi,
    TRef.nullary (TRef.of (T := ⟨S_, .i1⟩) main_call3_c_3) (constantI S_ 1 1#1),
    TRef.binary (TRef.of (T := ⟨S16384x1x1, .i1⟩) main_call3_v10) (TRef.of (T := ⟨S_, .i1⟩) main_call3_c_3) (TRef.of (T := ⟨S16384x1, .i1⟩) main_call3_v11) (fun x v => Host.reduce IntOp.andi x v reducesTo_S16384x1x1_S16384x1_d2 h_S_),
    TRef.binary (TRef.of (T := ⟨S16384x7x150, .f32⟩) main_v22) (TRef.of (T := ⟨S16384x1x1, .i32⟩) main_call3_v4) (TRef.of (T := ⟨S16384x1x150, .f32⟩) main_call3_v12) (fun x i => Host.gather gather_S16384x7x150_S16384x1x1_S16384x1x150_2_1_0_0_1_2_11150 x i),
    TRef.unary (TRef.of (T := ⟨S16384x1, .i1⟩) main_call3_v11) (TRef.of (T := ⟨S16384x1x150, .i1⟩) main_call3_v13) (broadcastInDim S16384x1x150 ![0, 1] bcast_S16384x1_S16384x1x150_0_1),
    TRef.nullary (TRef.of (T := ⟨S_, .f32⟩) main_call3_cst) (constant S_ .f32 0x7FC00000#32),
    TRef.unary (TRef.of (T := ⟨S_, .f32⟩) main_call3_cst) (TRef.of (T := ⟨S16384x1x150, .f32⟩) main_call3_v14) (broadcastInDim S16384x1x150 ![] bcast_S_S16384x1x150),
    TRef.ternary (TRef.of (T := ⟨S16384x1x150, .i1⟩) main_call3_v13) (TRef.of (T := ⟨S16384x1x150, .f32⟩) main_call3_v12) (TRef.of (T := ⟨S16384x1x150, .f32⟩) main_call3_v14) (TRef.of (T := ⟨S16384x1x150, .f32⟩) main_v24) select,
    reshape main_v24 main_v25 (rfl : (.f32 : EltTy) = .f32) shapeCasts_S16384x1x150_S16384x150,
    binary main_v15 main_v21 main_v26 (addf : (⟨S16384, .f32⟩ : BufTy).Contents (Elt F) → (⟨S16384, .f32⟩ : BufTy).Contents (Elt F) → (⟨S16384, .f32⟩ : BufTy).Contents (Elt F)),
    binary main_v15 main_v26 main_v27 (Host.divf : (⟨S16384, .f32⟩ : BufTy).Contents (Elt F) → (⟨S16384, .f32⟩ : BufTy).Contents (Elt F) → (⟨S16384, .f32⟩ : BufTy).Contents (Elt F)),
    unary main_v26 main_v28 (broadcastInDim S16384x1 ![0] bcast_S16384_S16384x1_0 : (⟨S16384, .f32⟩ : BufTy).Contents (Elt F) → (⟨S16384x1, .f32⟩ : BufTy).Contents (Elt F)),
    unary main_v28 main_v29 (broadcastInDim S16384x150 ![0, 1] bcast_S16384x1_S16384x150_0_1 : (⟨S16384x1, .f32⟩ : BufTy).Contents (Elt F) → (⟨S16384x150, .f32⟩ : BufTy).Contents (Elt F)),
    binary main_v25 main_v29 main_v30 (Host.divf : (⟨S16384x150, .f32⟩ : BufTy).Contents (Elt F) → (⟨S16384x150, .f32⟩ : BufTy).Contents (Elt F) → (⟨S16384x150, .f32⟩ : BufTy).Contents (Elt F)),
    unary main_v27 main_v31 (Host.log : (⟨S16384, .f32⟩ : BufTy).Contents (Elt F) → (⟨S16384, .f32⟩ : BufTy).Contents (Elt F)),
    unary main_v31 main_v32 (Host.negf : (⟨S16384, .f32⟩ : BufTy).Contents (Elt F) → (⟨S16384, .f32⟩ : BufTy).Contents (Elt F)),
    unary main_v30 main_v33 (Host.log : (⟨S16384x150, .f32⟩ : BufTy).Contents (Elt F) → (⟨S16384x150, .f32⟩ : BufTy).Contents (Elt F)),
    unary main_v33 main_v34 (Host.negf : (⟨S16384x150, .f32⟩ : BufTy).Contents (Elt F) → (⟨S16384x150, .f32⟩ : BufTy).Contents (Elt F)),
    nullary main_cst_5 (constant S_ .f32 0x00000000#32),
    binary main_v34 main_cst_5 main_v35 ((fun x v => Host.reduceAdd x v reducesTo_S16384x150_S16384_d1 h_S_) : (⟨S16384x150, .f32⟩ : BufTy).Contents (Elt F) → (⟨S_, .f32⟩ : BufTy).Contents (Elt F) → (⟨S16384, .f32⟩ : BufTy).Contents (Elt F)),
    binary main_v32 main_v35 main_v36 (addf : (⟨S16384, .f32⟩ : BufTy).Contents (Elt F) → (⟨S16384, .f32⟩ : BufTy).Contents (Elt F) → (⟨S16384, .f32⟩ : BufTy).Contents (Elt F)),
    nullary main_cst_6 (constant S_ .f32 0x43170000#32),
    unary main_cst_6 main_v37 (broadcastInDim S16384 ![] bcast_S_S16384 : (⟨S_, .f32⟩ : BufTy).Contents (Elt F) → (⟨S16384, .f32⟩ : BufTy).Contents (Elt F)),
    binary main_v36 main_v37 main_v38 (Host.divf : (⟨S16384, .f32⟩ : BufTy).Contents (Elt F) → (⟨S16384, .f32⟩ : BufTy).Contents (Elt F) → (⟨S16384, .f32⟩ : BufTy).Contents (Elt F)),
    nullary main_cst_7 (constant S_ .f32 0x00000000#32),
    binary main_v38 main_cst_7 main_v39 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_8 (constant S_ .f32 0x46800000#32),
    binary main_v39 main_cst_8 main_v40 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., nullary_bufs_sub .., nullary_bufs_sub .., quaternary_bufs_sub .., quaternary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., binary_bufs_sub .., reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., unary_bufs_sub .., unary_bufs_sub .., binary_bufs_sub .., unary_bufs_sub .., unary_bufs_sub .., unary_bufs_sub .., unary_bufs_sub .., nullary_bufs_sub .., binary_bufs_sub .., binary_bufs_sub .., nullary_bufs_sub .., unary_bufs_sub .., binary_bufs_sub .., nullary_bufs_sub .., binary_bufs_sub .., nullary_bufs_sub .., binary_bufs_sub ..⟩

set_option maxRecDepth 8192 in
set_option maxHeartbeats 32400000 in
/-- On every device, for any float values, from any memory with zero counters: every weakly fair execution of
    @main terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v40).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl),
      (h c main_arg3).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

/-- The frame: the arguments end unchanged and every counter is zero, the program declaring no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, Idealize.ShloMosaic.sem_eq_zero_of_no_sems (by decide) r.2⟩) (run m ρ)

end Cert.Proof.Ref

end
-- ==== Proof.RefRead.lean ====
/- The reference's stages read at an index over the extended reals. -/
module

public import proofs.«01_k».proof.Proof.RefRun
public import Idealize.ShloMosaic.Lib.Pointwise

@[expose] public section

set_option maxRecDepth 16384

noncomputable section

namespace Cert.Proof.Ref

open Cert.ReferenceIdeal Cert.ReferenceIdeal.Gen Idealize.ShloMosaic

theorem normCol_apply (a : FVec Ideal S16384x128 .f32) (r : Fin 16384) (z : Fin 1) :
    normCol a (ix2 r z) = max (Ideal.sqrt (∑ k : Fin 128, a (ix2 r k) * a (ix2 r k))) (Ideal.ofBits .f32 0x2B8CBCCC#32) := by
  pointwise [normCol]

theorem feat_apply (a : FVec Ideal S16384x128 .f32) (r : Fin 16384) (d : Fin 128) :
    feat a (ix2 r d) = Ideal.div (a (ix2 r d))
      (max (Ideal.sqrt (∑ k : Fin 128, a (ix2 r k) * a (ix2 r k))) (Ideal.ofBits .f32 0x2B8CBCCC#32)) := by
  pointwise [feat, normCol_apply]

theorem lpos_apply (f g : FVec Ideal S16384x128 .f32) (r : Fin 16384) :
    lpos f g (ix1 r) = Ideal.exp (Ideal.div (∑ k : Fin 128, f (ix2 r k) * g (ix2 r k)) (Ideal.ofBits .f32 0x3F000000#32)) := by
  pointwise [lpos]

theorem sims_apply (f : FVec Ideal S16384x128 .f32) (q : FVec Ideal S1050x128 .f32) (r : Fin 16384) (j : Fin 1050) :
    sims f q (ix2 r j) = Ideal.exp (Ideal.div (∑ k : Fin 128, f (ix2 r k) * q (ix2 j k)) (Ideal.ofBits .f32 0x3F000000#32)) := by
  pointwise [sims]

theorem den_apply (lp : FVec Ideal S16384 .f32) (s : FVec Ideal S16384x1050 .f32) (r : Fin 16384) :
    den lp s (ix1 r) = lp (ix1 r) + ∑ j : Fin 1050, s (ix2 r j) := by
  pointwise [den]

theorem rowLoss_apply (lp : FVec Ideal S16384 .f32) (pv : FVec Ideal S16384x150 .f32) (d : FVec Ideal S16384 .f32) (r : Fin 16384) :
    rowLoss lp pv d (ix1 r) = Ideal.div (-Ideal.log (Ideal.div (lp (ix1 r)) (d (ix1 r)))
      + ∑ k : Fin 150, -Ideal.log (Ideal.div (pv (ix2 r k)) (d (ix1 r)))) (Ideal.ofBits .f32 0x43170000#32) := by
  pointwise [rowLoss]

theorem mean_apply (x : FVec Ideal S16384 .f32) :
    mean x ix0 = Ideal.div (∑ r : Fin 16384, x (ix1 r)) (Ideal.ofBits .f32 0x46800000#32) := by
  pointwise [mean]

theorem idx_apply (l : IVec S16384 32) (r : Fin 16384) (y z : Fin 1) :
    idx l (ix3 r y z) = Scalar.select (IntOp.cmpi .slt (l (ix1 r)) 0#32) (IntOp.addi (l (ix1 r)) 7#32) (l (ix1 r)) := by
  pointwise [idx]

theorem inRange_apply (l : IVec S16384 32) (r : Fin 16384) (y : Fin 1) :
    inRange l (ix2 r y) = IntOp.andi (IntOp.cmpi .sge (idx l (ix3 r 0 0)) 0#32) (IntOp.cmpi .sle (idx l (ix3 r 0 0)) 6#32) := by
  pointwise [inRange]
  obtain rfl : y = 0 := Subsingleton.elim _ _
  rw [Finset.univ_unique, Finset.fold_singleton]
  exact BitVec.and_allOnes (w := 1)

end Cert.Proof.Ref

end
-- ==== Proof.Win.lean ====
/- The class of a row: the first index of the largest of seven scores. -/
module

public import Idealize.ShloMosaic.Lib.Pointwise
public import Idealize.ShloMosaic.PureOps.Ideal.Laws

@[expose] public section

namespace Cert.Proof

/-- `i` is the first index of the largest of seven scores. -/
def IsWin (v : Fin 7 → EReal) (i : Fin 7) : Prop := (∀ j, v j ≤ v i) ∧ ∀ j, j < i → v j < v i

/-- One scored index loses to another: a smaller score, or the same score at no smaller an index. -/
def Loses (x : EReal) (i : Fin 7) (y : EReal) (j : Fin 7) : Prop := x < y ∨ x = y ∧ j ≤ i

theorem Loses.refl (x : EReal) (i : Fin 7) : Loses x i x i := .inr ⟨rfl, le_rfl⟩

theorem Loses.trans {x y z : EReal} {i j k : Fin 7} (h : Loses x i y j) (h' : Loses y j z k) : Loses x i z k := by
  rcases h with h | ⟨rfl, h⟩ <;> rcases h' with h' | ⟨rfl, h'⟩
  · exact .inl (h.trans h')
  · exact .inl h
  · exact .inl h'
  · exact .inr ⟨rfl, h'.trans h⟩

/-- A scored index that is one of the seven, or the start `(⊥, 0)`. -/
def Good (v : Fin 7 → EReal) (x : EReal) (i : Fin 7) : Prop := x = v i ∨ x = ⊥ ∧ i = 0

/-- A fold that keeps, of two scored indices, the one the other loses to. -/
theorem fold_win (v : Fin 7 → EReal) (f : EReal × BitVec 32 → EReal × BitVec 32 → EReal × BitVec 32)
    (hf : ∀ x (i : Fin 7) y (j : Fin 7), ∃ z, ∃ k : Fin 7, f (x, BitVec.ofNat 32 i) (y, BitVec.ofNat 32 j) = (z, BitVec.ofNat 32 k)
      ∧ (z = x ∧ k = i ∨ z = y ∧ k = j) ∧ Loses x i z k ∧ Loses y j z k) :
    ∀ (l : List (Fin 7)) (x : EReal) (i : Fin 7), Good v x i →
      ∃ z, ∃ k : Fin 7, (l.map fun c => (v c, BitVec.ofNat 32 c)).foldl f (x, BitVec.ofNat 32 i) = (z, BitVec.ofNat 32 k)
        ∧ Good v z k ∧ Loses x i z k ∧ ∀ c ∈ l, Loses (v c) c z k
  | [], x, i, h => ⟨x, i, rfl, h, .refl x i, by simp⟩
  | a :: l, x, i, h => by
    obtain ⟨z, k, e, hz, h1, h2⟩ := hf x i (v a) a
    have hg : Good v z k := by
      rcases hz with ⟨rfl, rfl⟩ | ⟨rfl, rfl⟩
      · exact h
      · exact .inl rfl
    obtain ⟨w, m, e', hw, h3, h4⟩ := fold_win v f hf l z k hg
    refine ⟨w, m, ?_, hw, h1.trans h3, ?_⟩
    · rw [List.map_cons, List.foldl_cons, e, e']
    · intro c hc
      rcases List.mem_cons.1 hc with rfl | hc
      · exact h2.trans h3
      · exact h4 c hc

/-- Folded over a list with all seven indices from `(⊥, 0)`, it keeps the winner. -/
theorem fold_isWin (v : Fin 7 → EReal) (f : EReal × BitVec 32 → EReal × BitVec 32 → EReal × BitVec 32)
    (hf : ∀ x (i : Fin 7) y (j : Fin 7), ∃ z, ∃ k : Fin 7, f (x, BitVec.ofNat 32 i) (y, BitVec.ofNat 32 j) = (z, BitVec.ofNat 32 k)
      ∧ (z = x ∧ k = i ∨ z = y ∧ k = j) ∧ Loses x i z k ∧ Loses y j z k)
    (l : List (Fin 7)) (hl : ∀ c, c ∈ l) :
    ∃ k : Fin 7, IsWin v k ∧ ((l.map fun c => (v c, BitVec.ofNat 32 c)).foldl f (⊥, 0#32)).2 = BitVec.ofNat 32 k := by
  obtain ⟨z, k, e, hg, -, h⟩ := fold_win v f hf l ⊥ 0 (.inr ⟨rfl, rfl⟩)
  have hz : z = v k := by
    rcases hg with hg | ⟨rfl, rfl⟩
    · exact hg
    · rcases h 0 (hl 0) with h | h
      · exact absurd h not_lt_bot
      · exact h.1.symm
  subst hz
  refine ⟨k, ⟨fun j => ?_, fun j hj => ?_⟩, by rw [show (0#32 : BitVec 32) = BitVec.ofNat 32 ((0 : Fin 7) : Nat) from rfl, e]⟩
  · rcases h j (hl j) with h | h
    · exact h.le
    · exact h.1.le
  · rcases h j (hl j) with h | h
    · exact h
    · exact absurd h.2 (not_le.2 hj)

theorem IsWin.unique {v : Fin 7 → EReal} {i j : Fin 7} (h : IsWin v i) (h' : IsWin v j) : i = j := by
  rcases lt_trichotomy i j with l | l | l
  · exact absurd (h'.2 i l) (not_lt.2 (h.1 j))
  · exact l
  · exact absurd (h.2 j l) (not_lt.2 (h'.1 i))

end Cert.Proof
-- ==== Proof.RefLabel.lean ====
/- The reference's class and the block of the similarities it selects. -/
module

public import proofs.«01_k».proof.Proof.RefRead
public import proofs.«01_k».proof.Proof.Win
public import Idealize.ShloMosaic.PureOps.Ideal.Laws

@[expose] public section

set_option maxRecDepth 16384

noncomputable section

namespace Cert.Proof.Ref

open Cert.ReferenceIdeal Cert.ReferenceIdeal.Gen Idealize.ShloMosaic Idealize.ShloMosaic.Ideal

theorem slt_small : ∀ i j : Fin 7, (BitVec.ofNat 32 (i : Nat)).slt (BitVec.ofNat 32 (j : Nat)) = decide (i < j) := by decide

theorem reducer_step (x : EReal) (i : Fin 7) (y : EReal) (j : Fin 7) :
    ∃ z, ∃ k : Fin 7, reducer_argmax_f32_i32 (F := Ideal) (x, BitVec.ofNat 32 i) (y, BitVec.ofNat 32 j) = (z, BitVec.ofNat 32 k)
      ∧ (z = x ∧ k = i ∨ z = y ∧ k = j) ∧ Loses x i z k ∧ Loses y j z k := by
  have hs := slt_small i j
  rcases lt_trichotomy x y with h | h | h
  · refine ⟨y, j, ?_, .inr ⟨rfl, rfl⟩, .inl h, .refl _ _⟩
    simp [reducer_argmax_f32_i32, cmpf_def, Ideal.cmp, Scalar.select, IntOp.ori, IntOp.andi, h.not_gt, h.ne]
  · subst h
    by_cases hij : i < j
    · refine ⟨x, i, ?_, .inl ⟨rfl, rfl⟩, .refl _ _, .inr ⟨rfl, hij.le⟩⟩
      simp [reducer_argmax_f32_i32, cmpf_def, Ideal.cmp, Scalar.select, IntOp.ori, IntOp.andi, IntOp.cmpi, hs, hij]
    · refine ⟨x, j, ?_, .inr ⟨rfl, rfl⟩, .inr ⟨rfl, not_lt.1 hij⟩, .refl _ _⟩
      simp [reducer_argmax_f32_i32, cmpf_def, Ideal.cmp, Scalar.select, IntOp.ori, IntOp.andi, IntOp.cmpi, hs, hij]
  · refine ⟨x, i, ?_, .inl ⟨rfl, rfl⟩, .refl _ _, .inl h⟩
    simp [reducer_argmax_f32_i32, cmpf_def, Ideal.cmp, Scalar.select, IntOp.ori, IntOp.andi, h, h.ne']

theorem bot_word : Ideal.ofBits .f32 0xFF800000#32 = ⊥ := by
  simp [Ideal.ofBits, Ideal.ieee]

theorem label_apply (p : FVec Ideal S16384x7 .f32) (r : Fin 16384) :
    ∃ k : Fin 7, IsWin (fun c => p (ix2 r c)) k ∧ label p (ix1 r) = BitVec.ofNat 32 k := by
  have hd : ∀ n : Fin S16384x7.numel, reducesTo_S16384x7_S16384_d1.drop (S16384x7.rowMajor.symm n) = ix1 r ↔
      S16384x7.rowMajor.symm n = ix2 r ((S16384x7.rowMajor.symm n) 1) := by
    intro n
    generalize S16384x7.rowMajor.symm n = i
    have h0 := reducesTo_S16384x7_S16384_d1.drop_apply_val_of_eq i 0 0
    constructor
    · intro h
      rw [h] at h0
      funext a
      match a with
      | ⟨0, _⟩ => exact Fin.ext h0.symm
      | ⟨1, _⟩ => rfl
    · intro h
      funext a
      match a with
      | ⟨0, _⟩ =>
        refine Fin.ext (h0.trans ?_)
        rw [h]; rfl
  let cols : List (Fin 7) := ((List.finRange S16384x7.numel).filter fun n =>
    reducesTo_S16384x7_S16384_d1.drop (S16384x7.rowMajor.symm n) = ix1 r).map fun n => (S16384x7.rowMajor.symm n) 1
  have hf : Host.argReduceFiber p (iotaInDim S16384x7 32 1) reducesTo_S16384x7_S16384_d1 (ix1 r)
      = cols.map fun c => (p (ix2 r c), BitVec.ofNat 32 (c : Nat)) := by
    rw [Host.argReduceFiber]
    refine Eq.trans ?_ List.map_map.symm
    refine List.map_congr_left fun n hn => ?_
    have hn' := (hd n).1 (by simpa using (List.mem_filter.1 hn).2)
    refine Prod.ext ?_ rfl
    show p (S16384x7.rowMajor.symm n) = p (ix2 r ((S16384x7.rowMajor.symm n) 1))
    exact congrArg p hn'
  obtain ⟨k, hk, e⟩ := fold_isWin (fun c => p (ix2 r c)) (reducer_argmax_f32_i32 (F := Ideal)) reducer_step cols (by
    intro c
    refine List.mem_map.2 ⟨S16384x7.rowMajor (ix2 r c), List.mem_filter.2 ⟨List.mem_finRange _, ?_⟩, ?_⟩
    · simp only [decide_eq_true_eq]
      rw [hd, Equiv.symm_apply_apply]
      rfl
    · rw [Equiv.symm_apply_apply]; rfl)
  refine ⟨k, hk, ?_⟩
  unfold label
  rw [argReduce_eq_reduce2, Host.reduce2_eq_foldl_fiber, hf]
  refine Eq.trans ?_ e
  have hb : (constant (F := Ideal) S_ .f32 0xFF800000#32 (Shape.Idx.first h_S_), constantI S_ 32 0#32 (Shape.Idx.first h_S_))
      = ((⊥ : EReal), 0#32) := Prod.ext bot_word rfl
  rw [hb]

theorem gather_apply {α : Type} (x : S16384x7x150.Idx → α) (ix : IVec S16384x1x1 32) (r : Fin 16384) (k : Fin 150) (i : Fin 7)
    (hi : ix (ix3 r 0 0) = BitVec.ofNat 32 i) :
    Host.gather gather_S16384x7x150_S16384x1x1_S16384x1x150_2_1_0_0_1_2_11150 x ix (ix3 r 0 k) = x (ix3 r i k) := by
  unfold Host.gather
  congr 1
  funext a
  apply Fin.ext
  rcases (by decide : ∀ a : Fin 3, a = 0 ∨ a = 1 ∨ a = 2) a with rfl | rfl | rfl
  · show GatherDims.start _ _ _ _ + GatherDims.batchCoord _ _ _ + GatherDims.offCoord _ _ _ = r.val
    rw [GatherDims.start_batching _ _ _ _ (by decide), GatherDims.offCoord_eq_zero _ _ _ (by decide)]
    rw [Nat.zero_add, Nat.add_zero]
    unfold GatherDims.batchCoord
    rw [dif_pos (by decide)]
    rfl
  · show GatherDims.start _ _ _ _ + GatherDims.batchCoord _ _ _ + GatherDims.offCoord _ _ _ = i.val
    rw [GatherDims.batchCoord_eq_zero _ _ _ (by decide), GatherDims.offCoord_eq_zero _ _ _ (by decide)]
    rw [Nat.add_zero]
    unfold GatherDims.start
    rw [dif_pos (by decide)]
    have hs : GatherDims.siIdx gather_S16384x7x150_S16384x1x1_S16384x1x150_2_1_0_0_1_2_11150 (ix3 r 0 k)
        ⟨0, by decide⟩ = ix3 r 0 0 := by
      funext b
      match b with
      | ⟨0, _⟩ => rfl
      | ⟨1, _⟩ => rfl
      | ⟨2, _⟩ => rfl
    refine Eq.trans (b := min (ix (ix3 r 0 0)).toInt.toNat 6) ?_ ?_
    · rw [← hs]; rfl
    · rw [hi]; clear hi; revert i; decide
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    rw [Nat.zero_add]
    rfl

theorem idx_small : ∀ i : Fin 7, Scalar.select (IntOp.cmpi .slt (BitVec.ofNat 32 (i : Nat)) 0#32)
    (IntOp.addi (BitVec.ofNat 32 (i : Nat)) 7#32) (BitVec.ofNat 32 (i : Nat)) = BitVec.ofNat 32 (i : Nat) := by decide

theorem range_small : ∀ i : Fin 7, IntOp.andi (IntOp.cmpi .sge (BitVec.ofNat 32 (i : Nat)) 0#32)
    (IntOp.cmpi .sle (BitVec.ofNat 32 (i : Nat)) 6#32) = 1#1 := by decide

theorem posv_apply (s : FVec Ideal S16384x1050 .f32) (l : IVec S16384 32) (r : Fin 16384) (k : Fin 150) (i : Fin 7)
    (hi : l (ix1 r) = BitVec.ofNat 32 i) :
    posv s l (ix2 r k) = s (ix2 r ⟨150 * i.val + k.val, by omega⟩) := by
  have h1 : ∀ y z : Fin 1, idx l (ix3 r y z) = BitVec.ofNat 32 (i : Nat) := fun y z => by
    rw [idx_apply, hi, idx_small]
  have h2 : ∀ y : Fin 1, inRange l (ix2 r y) = 1#1 := fun y => by
    rw [inRange_apply, h1, range_small]
  pointwise [posv]
  rw [gather_apply _ _ _ _ i (h1 0 0)]
  pointwise []
  rw [h2 0]
  refine Eq.trans (b := s (ix2 r ⟨i.val * 150 + k.val, by omega⟩)) rfl ?_
  congr 2
  exact Fin.ext (by simp only; omega)

end Cert.Proof.Ref

end
-- ==== Proof.Consts.lean ====
/- The constants' words as real numbers. -/
module

public import Idealize.ShloMosaic.PureOps.Ideal.Laws
public import Mathlib.Analysis.SpecialFunctions.Log.Basic

@[expose] public section

namespace Cert.Proof

open Idealize.ShloMosaic

/-- The reference's floor of a norm: the word nearest 1e-12. -/
noncomputable def eps : ℝ := 9223372 / 9223372036854775808

theorem eps_word : Ideal.ofBits .f32 0x2B8CBCCC#32 = ((eps : ℝ) : EReal) := by
  simp [Ideal.ofBits, Ideal.ieee, -EReal.coe_mul]
  norm_num [eps]

theorem half_word : Ideal.ofBits .f32 0x3F000000#32 = (((1 / 2 : ℝ)) : EReal) := by
  simp [Ideal.ofBits, Ideal.ieee, -EReal.coe_mul]
  norm_num

theorem w151 : Ideal.ofBits .f32 0x43170000#32 = ((151 : ℝ) : EReal) := by
  simp [Ideal.ofBits, Ideal.ieee, -EReal.coe_mul]
  norm_num

theorem w16384 : Ideal.ofBits .f32 0x46800000#32 = ((16384 : ℝ) : EReal) := by
  simp [Ideal.ofBits, Ideal.ieee, -EReal.coe_mul]
  norm_num

theorem eps_pos : 0 < eps := by norm_num [eps]

/-- The floor's square, as the kernel's constant has it. -/
noncomputable def epsSq : ℝ := 5316911940649 / 5316911983139663491615228241121378304

theorem epsSq_eq : epsSq = eps * eps := by norm_num [epsSq, eps]

/-- The square of half the logarithm of two. -/
noncomputable def cScale : ℝ := ((1 / 2) * Real.log 2) * ((1 / 2) * Real.log 2)

end Cert.Proof
-- ==== Proof.Math.lean ====
/- One row of the loss over the extended reals: the reference's normalised row beside the kernel's
   reciprocal norm, and the real numbers both come to. -/
module

public import proofs.«01_k».proof.Proof.Consts
public import Mathlib.Analysis.SpecialFunctions.Pow.Real

@[expose] public section

noncomputable section

namespace Cert.Proof

open Idealize.ShloMosaic

/-- The floored norm of a row. -/
def nrm (v : Fin 128 → EReal) : EReal := max (Ideal.sqrt (∑ k, v k * v k)) (Ideal.ofBits .f32 0x2B8CBCCC#32)

/-- The normalised row. -/
def fe (v : Fin 128 → EReal) (d : Fin 128) : EReal := Ideal.div (v d) (nrm v)

/-- The product of two normalised rows. -/
def cosR (v w : Fin 128 → EReal) : ℝ := (∑ d, fe v d * fe w d).toReal

/-- The product of a normalised row with a row of the queue. -/
def simR (v u : Fin 128 → EReal) : ℝ := (∑ d, fe v d * u d).toReal

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_self_nonneg (x : EReal) : 0 ≤ x * x := by
  induction x using EReal.rec with
  | bot => simp
  | top => simp
  | coe x => rw [← EReal.coe_mul]; exact_mod_cast _root_.mul_self_nonneg x

theorem sum_top {v : Fin 128 → EReal} {d : Fin 128} (h : v d = ⊤ ∨ v d = ⊥) : ∑ k, v k * v k = ⊤ := by
  have h1 : v d * v d = ⊤ := by rcases h with h | h <;> rw [h] <;> simp
  have h2 : v d * v d ≤ ∑ k, v k * v k := Finset.single_le_sum (f := fun k => v k * v k) (fun k _ => mul_self_nonneg _) (Finset.mem_univ d)
  rw [h1] at h2
  exact top_le_iff.1 h2

theorem sqrt_top : Ideal.sqrt ⊤ = ⊤ := rfl

theorem sqrt_coe {r : ℝ} (h : 0 ≤ r) : Ideal.sqrt (r : EReal) = ((Real.sqrt r : ℝ) : EReal) := by
  show (if r < 0 then ⊥ else _) = _
  rw [if_neg h.not_gt]

theorem rsqrt_top : Ideal.rsqrt ⊤ = 0 := rfl

theorem rsqrt_coe {r : ℝ} (h : 0 < r) : Ideal.rsqrt (r : EReal) = (((Real.sqrt r)⁻¹ : ℝ) : EReal) := by
  show (if r < 0 then ⊥ else if r = 0 then ⊤ else _) = _
  rw [if_neg h.not_gt, if_neg h.ne']

theorem log_coe {r : ℝ} (h : 0 < r) : Ideal.log (r : EReal) = ((Real.log r : ℝ) : EReal) := by
  show (if r ≤ 0 then ⊥ else _) = _
  rw [if_neg h.not_ge]

theorem exp_coe (r : ℝ) : Ideal.exp (r : EReal) = ((Real.exp r : ℝ) : EReal) := rfl

theorem exp2_coe (r : ℝ) : Ideal.exp2 ((r * (2 / Real.log 2) : ℝ) : EReal) = ((Real.exp (2 * r) : ℝ) : EReal) := by
  show (((2 : ℝ) ^ (r * (2 / Real.log 2)) : ℝ) : EReal) = _
  rw [Real.rpow_def_of_pos (by norm_num)]
  congr 2
  have : Real.log 2 ≠ 0 := (Real.log_pos (by norm_num)).ne'
  field_simp

theorem div_coe {x y : ℝ} (h : y ≠ 0) : Ideal.div (x : EReal) (y : EReal) = ((x / y : ℝ) : EReal) := by
  rw [Ideal.div, if_neg (by exact_mod_cast h), ← EReal.coe_inv, ← EReal.coe_mul, div_eq_mul_inv]

/-- What a row comes to: a real row, normalised; or a row with an infinite entry, nought. -/
theorem row (v : Fin 128 → EReal) : ∃ κ : ℝ, ∃ x : Fin 128 → ℝ,
    (∀ d, fe v d = ((x d * κ : ℝ) : EReal)) ∧ (κ = 0 ∨ ∀ d, v d = (x d : EReal))
    ∧ Ideal.rsqrt (max (∑ k, v k * v k) (epsSq : EReal)) = (κ : EReal)
    ∧ Ideal.rsqrt (max ((∑ k, v k * v k) * (cScale : EReal)) ((epsSq * cScale : ℝ) : EReal)) = ((κ * (2 / Real.log 2) : ℝ) : EReal) := by
  have hl : 0 < Real.log 2 := Real.log_pos (by norm_num)
  have hC : 0 < cScale := by unfold cScale; positivity
  have he := eps_pos
  by_cases h : ∃ d, v d = ⊤ ∨ v d = ⊥
  · obtain ⟨d, h⟩ := h
    have hs := sum_top h
    refine ⟨0, fun _ => 0, fun d => ?_, .inl rfl, ?_, ?_⟩
    · have : nrm v = ⊤ := by simp [nrm, hs, sqrt_top]
      simp [fe, this, Ideal.div]
    · simp [hs, rsqrt_top]
    · rw [hs, EReal.top_mul_coe_of_pos hC]; simp [rsqrt_top]
  · push Not at h
    have hx : ∀ d, v d = ((v d).toReal : EReal) := fun d => (EReal.coe_toReal (h d).1 (h d).2).symm
    generalize hxe : (fun d => (v d).toReal) = x at *
    have hx' : ∀ d, v d = (x d : EReal) := fun d => by rw [hx d, ← hxe]
    have hs : ∑ k, v k * v k = ((∑ k, x k * x k : ℝ) : EReal) := by
      rw [coe_sum]; exact Finset.sum_congr rfl fun k _ => by rw [hx' k, EReal.coe_mul]
    generalize hS : ∑ k, x k * x k = S at hs
    have hS0 : 0 ≤ S := by rw [← hS]; exact Finset.sum_nonneg fun k _ => _root_.mul_self_nonneg _
    have hm : 0 < max S epsSq := lt_max_of_lt_right (by rw [epsSq_eq]; positivity)
    have hsq : Real.sqrt (max S epsSq) = max (Real.sqrt S) eps := by
      rw [Real.sqrt_monotone.map_max, epsSq_eq, Real.sqrt_mul_self he.le]
    have hn : nrm v = ((Real.sqrt (max S epsSq) : ℝ) : EReal) := by
      rw [nrm, hs, eps_word, hsq]
      rw [sqrt_coe hS0]
      exact (EReal.coe_strictMono.monotone.map_max).symm
    have hp : 0 < Real.sqrt (max S epsSq) := Real.sqrt_pos.2 hm
    refine ⟨(Real.sqrt (max S epsSq))⁻¹, x, fun d => ?_, .inr hx', ?_, ?_⟩
    · rw [fe, hn, hx' d, Ideal.div, if_neg (by exact_mod_cast hp.ne'), ← EReal.coe_inv, ← EReal.coe_mul]
    · rw [hs, ← EReal.coe_strictMono.monotone.map_max, rsqrt_coe hm]
    · rw [hs, ← EReal.coe_mul, ← EReal.coe_strictMono.monotone.map_max, ← max_mul_of_nonneg _ _ hC.le, rsqrt_coe (mul_pos hm hC)]
      congr 1
      rw [Real.sqrt_mul hm.le, cScale, Real.sqrt_mul_self (by positivity)]
      field_simp

/-- The reciprocal norm the kernel has of a row, scaled by two over the logarithm of two. -/
def kinv (v : Fin 128 → EReal) : EReal :=
  Ideal.rsqrt (max ((∑ k, v k * v k) * (cScale : EReal)) ((epsSq * cScale : ℝ) : EReal))

theorem cos_eq (v w : Fin 128 → EReal) : ∑ d, fe v d * fe w d = (cosR v w : EReal) := by
  obtain ⟨κ, x, hv, -⟩ := row v
  obtain ⟨μ, y, hw, -⟩ := row w
  have : ∑ d, fe v d * fe w d = ((∑ d, (x d * κ) * (y d * μ) : ℝ) : EReal) := by
    rw [coe_sum]; exact Finset.sum_congr rfl fun d _ => by rw [hv, hw, EReal.coe_mul (x d * κ)]
  rw [cosR, this, EReal.toReal_coe]

theorem sim_eq (v : Fin 128 → EReal) (u : Fin 128 → ℝ) : ∑ d, fe v d * (u d : EReal) = (simR v fun d => u d : EReal) := by
  obtain ⟨κ, x, hv, -⟩ := row v
  have : ∑ d, fe v d * (u d : EReal) = ((∑ d, (x d * κ) * u d : ℝ) : EReal) := by
    rw [coe_sum]; exact Finset.sum_congr rfl fun d _ => by rw [hv, EReal.coe_mul (x d * κ)]
  rw [simR, this, EReal.toReal_coe]

/-- The kernel's product of a row and its twin. -/
theorem kcos (v w : Fin 128 → EReal) :
    (∑ d, v d * w d) * kinv v * Ideal.rsqrt (max (∑ k, w k * w k) (epsSq : EReal)) = ((cosR v w * (2 / Real.log 2) : ℝ) : EReal) := by
  obtain ⟨κ, x, hv, h1, -, h2⟩ := row v
  obtain ⟨μ, y, hw, h3, h4, -⟩ := row w
  have hc : cosR v w = ∑ d, (x d * κ) * (y d * μ) := by
    have : ∑ d, fe v d * fe w d = ((∑ d, (x d * κ) * (y d * μ) : ℝ) : EReal) := by
      rw [coe_sum]; exact Finset.sum_congr rfl fun d _ => by rw [hv, hw, EReal.coe_mul (x d * κ)]
    rw [cosR, this, EReal.toReal_coe]
  rw [kinv, h2, h4, hc]
  rcases h1 with rfl | h1
  · simp
  rcases h3 with rfl | h3
  · simp
  have : ∑ d, v d * w d = ((∑ d, x d * y d : ℝ) : EReal) := by
    rw [coe_sum]; exact Finset.sum_congr rfl fun d _ => by rw [h1, h3, EReal.coe_mul]
  rw [this, ← EReal.coe_mul, ← EReal.coe_mul]
  congr 1
  rw [Finset.sum_mul, Finset.sum_mul, Finset.sum_mul]
  exact Finset.sum_congr rfl fun d _ => by ring

/-- The kernel's product of a row and a row of the queue. -/
theorem ksim (v : Fin 128 → EReal) (u : Fin 128 → ℝ) :
    (∑ d, (u d : EReal) * v d) * kinv v = ((simR v (fun d => u d) * (2 / Real.log 2) : ℝ) : EReal) := by
  obtain ⟨κ, x, hv, h1, -, h2⟩ := row v
  have hc : simR v (fun d => u d) = ∑ d, (x d * κ) * u d := by
    have : ∑ d, fe v d * (u d : EReal) = ((∑ d, (x d * κ) * u d : ℝ) : EReal) := by
      rw [coe_sum]; exact Finset.sum_congr rfl fun d _ => by rw [hv, EReal.coe_mul (x d * κ)]
    rw [simR, this, EReal.toReal_coe]
  rw [kinv, h2, hc]
  rcases h1 with rfl | h1
  · simp
  have : ∑ d, (u d : EReal) * v d = ((∑ d, u d * x d : ℝ) : EReal) := by
    rw [coe_sum]; exact Finset.sum_congr rfl fun d _ => by rw [h1, EReal.coe_mul]
  rw [this, ← EReal.coe_mul]
  congr 1
  rw [Finset.sum_mul, Finset.sum_mul]
  exact Finset.sum_congr rfl fun d _ => by ring

theorem simR_sum (v : Fin 128 → EReal) {ι : Type} [Fintype ι] (u : ι → Fin 128 → ℝ) :
    simR v (fun d => ((∑ k, u k d : ℝ) : EReal)) = ∑ k, simR v fun d => (u k d : EReal) := by
  obtain ⟨κ, x, hv, -⟩ := row v
  have hc : ∀ u : Fin 128 → ℝ, simR v (fun d => u d) = ∑ d, (x d * κ) * u d := fun u => by
    have : ∑ d, fe v d * (u d : EReal) = ((∑ d, (x d * κ) * u d : ℝ) : EReal) := by
      rw [coe_sum]; exact Finset.sum_congr rfl fun d _ => by rw [hv, EReal.coe_mul (x d * κ)]
    rw [simR, this, EReal.toReal_coe]
  simp only [hc]
  rw [Finset.sum_comm]
  exact Finset.sum_congr rfl fun d _ => Finset.mul_sum _ _ _

/-- The loss of one row, of the row's product with its twin, its products with the queue's rows and its class. -/
def lossR (c : ℝ) (s : Fin 1050 → ℝ) (i : Fin 7) : ℝ :=
  (151 * Real.log (Real.exp (2 * c) + ∑ j, Real.exp (2 * s j)) - 2 * c
    - 2 * ∑ k : Fin 150, s ⟨150 * i.val + k.val, by omega⟩) / 151

theorem den_pos (c : ℝ) (s : Fin 1050 → ℝ) : 0 < Real.exp (2 * c) + ∑ j, Real.exp (2 * s j) :=
  add_pos_of_pos_of_nonneg (Real.exp_pos _) (Finset.sum_nonneg fun _ _ => (Real.exp_pos _).le)

/-- The reference's row: each logarithm of a quotient the difference of logarithms. -/
theorem ref_row (c : ℝ) (s : Fin 1050 → ℝ) (i : Fin 7) :
    Ideal.div (-Ideal.log (Ideal.div (Ideal.exp (Ideal.div (c : EReal) ((1 / 2 : ℝ) : EReal)))
          (Ideal.exp (Ideal.div (c : EReal) ((1 / 2 : ℝ) : EReal)) + ∑ j, Ideal.exp (Ideal.div (s j : EReal) ((1 / 2 : ℝ) : EReal))))
        + ∑ k : Fin 150, -Ideal.log (Ideal.div (Ideal.exp (Ideal.div (s ⟨150 * i.val + k.val, by omega⟩ : EReal) ((1 / 2 : ℝ) : EReal)))
          (Ideal.exp (Ideal.div (c : EReal) ((1 / 2 : ℝ) : EReal)) + ∑ j, Ideal.exp (Ideal.div (s j : EReal) ((1 / 2 : ℝ) : EReal)))))
      ((151 : ℝ) : EReal) = (lossR c s i : EReal) := by
  have he : ∀ t : ℝ, Ideal.exp (Ideal.div (t : EReal) ((1 / 2 : ℝ) : EReal)) = ((Real.exp (2 * t) : ℝ) : EReal) := fun t => by
    rw [div_coe (by norm_num), exp_coe]; congr 2; ring
  simp only [he]
  rw [← coe_sum, ← EReal.coe_add]
  have hD := den_pos c s
  unfold lossR
  generalize Real.exp (2 * c) + ∑ j, Real.exp (2 * s j) = D at hD ⊢
  have hq : ∀ t : ℝ, -Ideal.log (Ideal.div ((Real.exp (2 * t) : ℝ) : EReal) (D : EReal)) = ((Real.log D - 2 * t : ℝ) : EReal) := fun t => by
    rw [div_coe hD.ne', log_coe (div_pos (Real.exp_pos _) hD), Real.log_div (Real.exp_pos _).ne' hD.ne', Real.log_exp, ← EReal.coe_neg]
    congr 1; ring
  simp only [hq]
  rw [← coe_sum, ← EReal.coe_add, div_coe (by norm_num)]
  congr 2
  rw [Finset.sum_sub_distrib, Finset.sum_const, Finset.card_univ, Fintype.card_fin, ← Finset.mul_sum, nsmul_eq_mul]
  push_cast
  ring

/-- The kernel's block: the rows' losses summed. -/
theorem ker_block {n : Nat} (c : Fin n → ℝ) (s : Fin n → Fin 1050 → ℝ) (i : Fin n → Fin 7) :
    (((151 : ℝ) : EReal) * (∑ x, Ideal.log (Ideal.exp2 ((c x * (2 / Real.log 2) : ℝ) : EReal)
          + ∑ j, Ideal.exp2 ((s x j * (2 / Real.log 2) : ℝ) : EReal)) * (((Real.log 2)⁻¹ : ℝ) : EReal))
        - (∑ x, ((c x * (2 / Real.log 2) : ℝ) : EReal))
        - ∑ x, (((∑ k : Fin 150, s x ⟨150 * (i x).val + k.val, by omega⟩) * (2 / Real.log 2) : ℝ) : EReal))
      * ((Real.log 2 * (1 / 151) : ℝ) : EReal) = ((∑ x, lossR (c x) (s x) (i x) : ℝ) : EReal) := by
  have hl : Real.log 2 ≠ 0 := (Real.log_pos (by norm_num)).ne'
  simp only [exp2_coe]
  have h1 : ∀ x, Ideal.log (((Real.exp (2 * c x) : ℝ) : EReal) + ∑ j, ((Real.exp (2 * s x j) : ℝ) : EReal)) * (((Real.log 2)⁻¹ : ℝ) : EReal)
      = ((Real.log (Real.exp (2 * c x) + ∑ j, Real.exp (2 * s x j)) * (Real.log 2)⁻¹ : ℝ) : EReal) := fun x => by
    rw [← coe_sum, ← EReal.coe_add, log_coe (den_pos _ _), ← EReal.coe_mul]
  simp only [h1]
  rw [← coe_sum, ← coe_sum, ← coe_sum, ← EReal.coe_mul, ← EReal.coe_sub, ← EReal.coe_sub, ← EReal.coe_mul]
  congr 1
  rw [Finset.mul_sum, ← Finset.sum_sub_distrib, ← Finset.sum_sub_distrib, Finset.sum_mul]
  refine Finset.sum_congr rfl fun x _ => ?_
  unfold lossR
  field_simp

end Cert.Proof

end
-- ==== Proof.RefValue.lean ====
/- The reference's result: the mean of the rows' losses. -/
module

public import proofs.«01_k».proof.Proof.RefLabel
public import proofs.«01_k».proof.Proof.Math

@[expose] public section

set_option maxRecDepth 16384

noncomputable section

namespace Cert.Proof.Ref

open Cert.ReferenceIdeal Cert.ReferenceIdeal.Gen Idealize.ShloMosaic

theorem feat_fe (a : FVec Ideal S16384x128 .f32) (r : Fin 16384) (d : Fin 128) :
    feat a (ix2 r d) = fe (fun k => a (ix2 r k)) d := feat_apply a r d

theorem row_eq (a e : FVec Ideal S16384x128 .f32) (p : FVec Ideal S16384x7 .f32) (q : FVec Ideal S1050x128 .f32)
    (Q : Fin 1050 → Fin 128 → ℝ) (hQ : ∀ j k, q (ix2 j k) = (Q j k : EReal))
    (i : Fin 16384 → Fin 7) (hi : ∀ r, IsWin (fun c => p (ix2 r c)) (i r)) (r : Fin 16384) :
    rowLoss (lpos (feat a) (feat e)) (posv (sims (feat a) q) (label p)) (den (lpos (feat a) (feat e)) (sims (feat a) q)) (ix1 r)
      = (lossR (cosR (fun k => a (ix2 r k)) (fun k => e (ix2 r k))) (fun j => simR (fun k => a (ix2 r k)) fun d => Q j d) (i r) : EReal) := by
  obtain ⟨k, hk, hl⟩ := label_apply p r
  obtain rfl := (hi r).unique hk
  rw [rowLoss_apply]
  simp only [posv_apply _ _ _ _ _ hl, den_apply, lpos_apply, sims_apply, feat_fe, hQ, cos_eq, sim_eq, half_word, w151]
  exact ref_row _ (fun j => simR (fun k => a (ix2 r k)) fun d => Q j d) (i r)

theorem refOut_eq (a e : FVec Ideal S16384x128 .f32) (p : FVec Ideal S16384x7 .f32) (q : FVec Ideal S1050x128 .f32)
    (Q : Fin 1050 → Fin 128 → ℝ) (hQ : ∀ j k, q (ix2 j k) = (Q j k : EReal))
    (i : Fin 16384 → Fin 7) (hi : ∀ r, IsWin (fun c => p (ix2 r c)) (i r)) :
    refOut a e p q ix0 = Ideal.div ((∑ r : Fin 16384,
      lossR (cosR (fun k => a (ix2 r k)) (fun k => e (ix2 r k))) (fun j => simR (fun k => a (ix2 r k)) fun d => Q j d) (i r) : ℝ) : EReal)
      (Ideal.ofBits .f32 0x46800000#32) := by
  rw [refOut, mean_apply, coe_sum]
  simp only [row_eq a e p q Q hQ i hi]

end Cert.Proof.Ref

end
-- ==== Proof.KernelOut.lean ====
/- What the kernel's body leaves in its one-element output at each of its two cases. -/
module

public import proofs.«01_k».proof.Proof.Gen.KernelIdeal.Frame
public import Idealize.ShloMosaic.Lib.Pipeline.Value

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)

variable {F : FTy → Type} [FloatOps F] [Named F]

/-- The loads' and stores' offsets are zero. -/
theorem hz : (![0, 0] : Fin 2 → Nat) = fun _ => 0 := funext (by decide)

/-- One point's payload over what the output held. -/
abbrev step (a e : Vec F S4096x128 .f32) (p : Vec F S7x4096 .f32) (q : Vec F S1050x128 .f32) (seg : Vec F S1050x8 .bf16)
    (v79 : F .f32) : F .f32 :=
  k0_pay7 (k0_pay1 a) (k0_pay2 q) (k0_pay3 a) (k0_pay4 a e) (k0_pay5 a q) (iota .tc S7x4096 32 [0] iota_S7x4096_d0_w32) (k0_pay6 p) 7#32 seg v79

/-- At a later point the body leaves the step from what the output held. -/
theorem out_B (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S7x4096 .f32) (harg3 : arg3.IsWhole) (arg4 : Memref sig .tc .vmem S1050x128 .f32) (harg4 : arg4.IsWhole) (arg5 : Memref sig .tc .vmem S1050x8 .bf16) (harg5 : arg5.IsWhole) (arg6 : Memref sig .tc .smem S1x1 .f32) (harg6 : arg6.IsWhole) (hc0 : ¬cond0_0 i)
    (x0 : Vec F S4096x128 .f32) (x1 : Vec F S4096x128 .f32) (x2 : Vec F S7x4096 .f32) (x3 : Vec F S1050x128 .f32) (x4 : Vec F S1050x8 .bf16) (s : F .f32) :
    out0_B_5 c i arg1 harg1 arg2 harg2 arg3 harg3 arg4 harg4 arg5 harg5 arg6 harg6 hc0 x0 x1 x2 x3 x4 (fun _ => s)
      = fun _ => step x0 x1 x2 x3 x4 s := by
  unfold out0_B_5
  rw [View.read_writes_eq_canon _ _ _ (cover0_B_5 c i arg1 harg1 arg2 harg2 arg3 harg3 arg4 harg4 arg5 harg5 arg6 harg6 hc0 x0 x1 x2 x3 x4 (fun _ => s))]
  unfold kernelRun0_B
  dsimp only
  sl_unfold_words
  rw [View.canon_unit_zero hz]
  simp only [View.readAt_eq_ld, harg1.read_unread, harg2.read_unread, harg3.read_unread, harg4.read_unread, harg5.read_unread, harg6.read_unread,
    View.ld_unit_zero (S := S4096x128) hz, View.ld_unit_zero (S := S7x4096) hz, View.ld_unit_zero (S := S1050x128) hz, View.ld_unit_zero (S := S1050x8) hz, View.ld_unit_zero (S := S1x1) hz]
  rfl

/-- At the first point the body leaves the step from zero. -/
theorem out_A (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S7x4096 .f32) (harg3 : arg3.IsWhole) (arg4 : Memref sig .tc .vmem S1050x128 .f32) (harg4 : arg4.IsWhole) (arg5 : Memref sig .tc .vmem S1050x8 .bf16) (harg5 : arg5.IsWhole) (arg6 : Memref sig .tc .smem S1x1 .f32) (harg6 : arg6.IsWhole) (hc0 : cond0_0 i)
    (x0 : Vec F S4096x128 .f32) (x1 : Vec F S4096x128 .f32) (x2 : Vec F S7x4096 .f32) (x3 : Vec F S1050x128 .f32) (x4 : Vec F S1050x8 .bf16) :
    out0_A_5 c i arg1 harg1 arg2 harg2 arg3 harg3 arg4 harg4 arg5 harg5 arg6 harg6 hc0 x0 x1 x2 x3 x4
      = fun _ => step x0 x1 x2 x3 x4 (Scalar.ofBits .f32 0x00000000#32) := by
  unfold out0_A_5
  rw [View.read_writes_eq_canon _ _ _ (cover0_A_5 c i arg1 harg1 arg2 harg2 arg3 harg3 arg4 harg4 arg5 harg5 arg6 harg6 hc0 x0 x1 x2 x3 x4)]
  unfold kernelRun0_A
  dsimp only
  sl_unfold_words
  rw [View.canon_cons_unit_zero (S := S1x1) hz]
  simp only [View.readCov_unit_zero (S := S1x1) _ hz, View.readAt_eq_ld, harg1.read_unread, harg2.read_unread, harg3.read_unread, harg4.read_unread, harg5.read_unread, harg6.read_unread,
    View.ld_unit_zero (S := S4096x128) hz, View.ld_unit_zero (S := S7x4096) hz, View.ld_unit_zero (S := S1050x128) hz, View.ld_unit_zero (S := S1050x8) hz, View.ld_unit_zero (S := S1x1) hz]
  rfl

end Cert.Proof.Ker

end
-- ==== Proof.KernelRead.lean ====
/- The kernel's vectors of one block read at an index over the extended reals. -/
module

public import proofs.«01_k».proof.Proof.Gen.KernelIdeal.Skeleton
public import Idealize.ShloMosaic.Lib.Pointwise

@[expose] public section

set_option maxRecDepth 16384

noncomputable section

namespace Cert.Proof.Ker

open Cert.KernelIdeal Cert.KernelIdeal.Gen Idealize.ShloMosaic

theorem pay3_apply (a : Vec Ideal S4096x128 .f32) (z : Fin 1) (r : Fin 4096) :
    k0_pay3 (F := Ideal) a (ix2 z r) = Ideal.rsqrt (max ((∑ k : Fin 128, a (ix2 r k) * a (ix2 r k)) * (Named.named (F := Ideal) (φ := .f32) κ "c_scale" 0x3DF5FDF0#32 : EReal))
      (Named.named (F := Ideal) (φ := .f32) κ "floor_sq_c" 0x1614B169#32)) := by
  pointwise [k0_pay3, k0_pay1]
  done

theorem pay4_apply (a e : Vec Ideal S4096x128 .f32) (z : Fin 1) (r : Fin 4096) :
    k0_pay4 (F := Ideal) a e (ix2 z r) = (∑ k : Fin 128, a (ix2 r k) * e (ix2 r k)) * k0_pay3 (F := Ideal) a (ix2 0 r)
      * Ideal.rsqrt (max (∑ k : Fin 128, e (ix2 r k) * e (ix2 r k)) (Named.named (F := Ideal) (φ := .f32) κ "floor_sq" 0x179ABE15#32)) := by
  obtain rfl : z = 0 := Subsingleton.elim _ _
  pointwise [k0_pay4, k0_pay1]

theorem pay5_apply (a : Vec Ideal S4096x128 .f32) (q : Vec Ideal S1050x128 .f32) (z : Fin 1) (r : Fin 4096) :
    k0_pay5 (F := Ideal) a q (ix2 z r) = ∑ j : Fin 1050, Ideal.exp2 ((∑ k : Fin 128, q (ix2 j k) * a (ix2 r k)) * k0_pay3 (F := Ideal) a (ix2 0 r)) := by
  pointwise [k0_pay5, k0_pay1, k0_pay2]
  rfl

theorem pay6_apply (p : Vec Ideal S7x4096 .f32) (c : Fin 7) (r : Fin 4096) :
    k0_pay6 (F := Ideal) p (ix2 c r) = Ideal.cmp .oeq (p (ix2 c r)) (Finset.univ.fold max ⊥ fun c' : Fin 7 => p (ix2 c' r)) := by
  pointwise [k0_pay6]
  rw [show Ideal.ofBits .f32 0xFF800000#32 = ⊥ by simp [Ideal.ofBits, Ideal.ieee]]

theorem pay7_apply (v1 : FVec Ideal S4096x128 .bf16) (v7 : FVec Ideal S1050x128 .bf16) (v21 : FVec Ideal S1x4096 .f32) (v26 : FVec Ideal S1x4096 .f32) (v32 : FVec Ideal S1x4096 .f32) (v35 : IVec S7x4096 32) (v37 : IVec S7x4096 1) (c7 : BitVec 32) (v47 : Vec Ideal S1050x8 .bf16) (v79 : EReal) :
    (k0_pay7 (F := Ideal) v1 v7 v21 v26 v32 v35 v37 c7 v47 v79 : EReal) = v79 +
      (Ideal.ofBits FTy.f32 0x43170000#32 *
              (∑ x : Fin 4096, Ideal.log (Ideal.exp2 (v26 (ix2 0 x)) + v32 (ix2 0 x)) * (Named.named (F := Ideal) (φ := .f32) κ "inv_ln2" 0x3FB8AA3B#32 : EReal)) -
            (∑ x : Fin 4096, v26 (ix2 0 x)) -
          ∑ x : Fin 4096,
              (∑ c : Fin 8,
                  FloatOps.sitofp (F := Ideal) FTy.f32
                      (BitVec.setWidth 32
                        (IntOp.cmpi .eq (BitVec.ofNat 32 c)
                          (Finset.fold IntOp.minsi (2147483647#32)
                            (fun c' : Fin 7 => Scalar.select (v37 (ix2 c' x)) (v35 (ix2 c' x)) c7) Finset.univ))) *
                    ∑ k : Fin 128, (∑ j : Fin 1050, v47 (ix2 j c) * v7 (ix2 j k)) * v1 (ix2 x k)) *
                v21 (ix2 0 x)) *
        (Named.named (F := Ideal) (φ := .f32) κ "ln2_mean" 0x3B966AE3#32 : EReal) := by
  pointwise [k0_pay7]
  simp only [Finset.univ_unique, Finset.sum_singleton]
  rfl

end Cert.Proof.Ker

end
-- ==== Proof.KernelBlock.lean ====
/- What the kernel adds at one grid point: the sum of the losses of its block's rows. -/
module

public import proofs.«01_k».proof.Proof.KernelRead
public import proofs.«01_k».proof.Proof.Win
public import proofs.«01_k».proof.Proof.Math

@[expose] public section

set_option maxRecDepth 16384

noncomputable section

namespace Cert.Proof.Ker

open Cert.KernelIdeal Cert.KernelIdeal.Gen Idealize.ShloMosaic

theorem first_true : ∀ b : Fin 7 → Bool, ∀ i : Fin 7, b i = true → (∀ j, j < i → b j = false) →
    Finset.univ.fold IntOp.minsi 2147483647#32 (fun c : Fin 7 => Scalar.select (BitVec.ofBool (b c)) (BitVec.ofNat 32 (c : Nat)) 7#32)
      = BitVec.ofNat 32 (i : Nat) := by
  decide +kernel

theorem fold_max {v : Fin 7 → EReal} {i : Fin 7} (h : IsWin v i) : Finset.univ.fold max ⊥ v = v i := by
  refine le_antisymm ?_ ?_
  · rw [Finset.fold_max_le]; exact ⟨bot_le, fun j _ => h.1 j⟩
  · rw [Finset.le_fold_max]; exact .inr ⟨i, Finset.mem_univ _, le_rfl⟩

theorem label_eq {v : Fin 7 → EReal} {i : Fin 7} (h : IsWin v i) :
    Finset.univ.fold IntOp.minsi 2147483647#32 (fun c : Fin 7 =>
      Scalar.select (Ideal.cmp .oeq (v c) (Finset.univ.fold max ⊥ v)) (BitVec.ofNat 32 (c : Nat)) 7#32) = BitVec.ofNat 32 (i : Nat) := by
  rw [fold_max h]
  refine first_true (fun c => decide (v c = v i)) i (by simp) fun j hj => ?_
  simpa using (h.2 j hj).ne

theorem onehot_word : ∀ (c : Fin 8) (i : Fin 7), BitVec.setWidth 32 (IntOp.cmpi .eq (BitVec.ofNat 32 (c : Nat)) (BitVec.ofNat 32 (i : Nat)))
    = if c.val = i.val then 1#32 else 0#32 := by
  decide +kernel

theorem onehot (c : Fin 8) (i : Fin 7) : (FloatOps.sitofp (F := Ideal) FTy.f32
    (BitVec.setWidth 32 (IntOp.cmpi .eq (BitVec.ofNat 32 (c : Nat)) (BitVec.ofNat 32 (i : Nat)))) : EReal) = if c.val = i.val then 1 else 0 := by
  rw [onehot_word]
  split
  · show (((1#32 : BitVec 32).toInt : ℝ) : EReal) = 1
    simp
  · show (((0#32 : BitVec 32).toInt : ℝ) : EReal) = 0
    simp

theorem c_scale : (Named.named (F := Ideal) (φ := .f32) κ "c_scale" 0x3DF5FDF0#32 : EReal) = (cScale : EReal) :=
  IdealRules.named_const.ideal_named_scalar κ _ _ _ rfl
theorem floor_sq_c : (Named.named (F := Ideal) (φ := .f32) κ "floor_sq_c" 0x1614B169#32 : EReal) = ((epsSq * cScale : ℝ) : EReal) :=
  IdealRules.named_const.ideal_named_scalar κ _ _ _ rfl
theorem floor_sq : (Named.named (F := Ideal) (φ := .f32) κ "floor_sq" 0x179ABE15#32 : EReal) = (epsSq : EReal) :=
  IdealRules.named_const.ideal_named_scalar κ _ _ _ rfl
theorem inv_ln2 : (Named.named (F := Ideal) (φ := .f32) κ "inv_ln2" 0x3FB8AA3B#32 : EReal) = (((Real.log 2)⁻¹ : ℝ) : EReal) :=
  IdealRules.named_const.ideal_named_scalar κ _ _ _ rfl
theorem ln2_mean : (Named.named (F := Ideal) (φ := .f32) κ "ln2_mean" 0x3B966AE3#32 : EReal) = ((Real.log 2 * (1 / 151) : ℝ) : EReal) :=
  IdealRules.named_const.ideal_named_scalar κ _ _ _ rfl

theorem pay3_kinv (a : Vec Ideal S4096x128 .f32) (z : Fin 1) (r : Fin 4096) :
    k0_pay3 (F := Ideal) a (ix2 z r) = kinv fun k => a (ix2 r k) := by
  rw [pay3_apply, c_scale, floor_sq_c]; rfl

/-- The rows of one class of the queue, summed through the table. -/
theorem seg_sum (f : Fin 1050 → ℝ) (i : Fin 7) :
    ∑ j : Fin 1050, (if j.val / 150 = i.val then (1 : EReal) else 0) * (f j : EReal)
      = ((∑ k : Fin 150, f ⟨150 * i.val + k.val, by omega⟩ : ℝ) : EReal) := by
  have : ∀ j : Fin 1050, (if j.val / 150 = i.val then (1 : EReal) else 0) * (f j : EReal)
      = ((if j.val / 150 = i.val then f j else 0 : ℝ) : EReal) := fun j => by split <;> simp
  simp only [this]
  rw [← coe_sum]
  congr 1
  rw [← Finset.sum_filter]
  symm
  refine Finset.sum_bij (fun (k : Fin 150) _ => (⟨150 * i.val + k.val, by omega⟩ : Fin 1050)) ?_ ?_ ?_ ?_
  · intro k _; simp only [Finset.mem_filter, Finset.mem_univ, true_and]; omega
  · intro k _ l _ h; have := Fin.mk.inj h; exact Fin.ext (by omega)
  · intro j hj
    have := (Finset.mem_filter.1 hj).2
    exact ⟨⟨j.val % 150, by omega⟩, Finset.mem_univ _, Fin.ext (by simp only; omega)⟩
  · intro k _; rfl

/-- What one grid point adds to the sum. -/
theorem block (a e : Vec Ideal S4096x128 .f32) (p : Vec Ideal S7x4096 .f32) (q : Vec Ideal S1050x128 .f32) (seg : Vec Ideal S1050x8 .bf16)
    (v35 : IVec S7x4096 32) (h35 : ∀ c r, v35 (ix2 c r) = BitVec.ofNat 32 (c : Fin 7).val)
    (Q : Fin 1050 → Fin 128 → ℝ) (hQ : ∀ j k, q (ix2 j k) = (Q j k : EReal))
    (hseg : ∀ j c, seg (ix2 j c) = if (j : Fin 1050).val / 150 = (c : Fin 8).val then (1 : EReal) else 0)
    (i : Fin 4096 → Fin 7) (hi : ∀ r, IsWin (fun c => p (ix2 c r)) (i r)) (v79 : EReal) :
    (k0_pay7 (F := Ideal) (k0_pay1 a) (k0_pay2 q) (k0_pay3 a) (k0_pay4 a e) (k0_pay5 a q) v35 (k0_pay6 p) 7#32 seg v79 : EReal)
      = v79 + ((∑ r : Fin 4096, lossR (cosR (fun k => a (ix2 r k)) (fun k => e (ix2 r k))) (fun j => simR (fun k => a (ix2 r k)) fun d => Q j d) (i r) : ℝ) : EReal) := by
  rw [pay7_apply, w151, inv_ln2, ln2_mean]
  have h4 : ∀ r, k0_pay4 (F := Ideal) a e (ix2 0 r)
      = ((cosR (fun k => a (ix2 r k)) (fun k => e (ix2 r k)) * (2 / Real.log 2) : ℝ) : EReal) := fun r => by
    rw [pay4_apply, floor_sq, pay3_kinv]; exact kcos _ _
  have h5 : ∀ r, k0_pay5 (F := Ideal) a q (ix2 0 r)
      = ∑ j, Ideal.exp2 ((simR (fun k => a (ix2 r k)) (fun d => Q j d) * (2 / Real.log 2) : ℝ) : EReal) := fun r => by
    rw [pay5_apply, pay3_kinv]
    refine Finset.sum_congr rfl fun j _ => ?_
    simp only [hQ]
    rw [ksim]
  have h6 : ∀ r, (∑ c : Fin 8, (FloatOps.sitofp (F := Ideal) FTy.f32 (BitVec.setWidth 32 (IntOp.cmpi .eq (BitVec.ofNat 32 (c : Nat))
        (Finset.fold IntOp.minsi (2147483647#32) (fun c' : Fin 7 => Scalar.select (k0_pay6 (F := Ideal) p (ix2 c' r)) (v35 (ix2 c' r)) 7#32) Finset.univ))) : EReal)
        * ∑ k : Fin 128, (∑ j : Fin 1050, seg (ix2 j c) * k0_pay2 (F := Ideal) q (ix2 j k)) * k0_pay1 (F := Ideal) a (ix2 r k)) * k0_pay3 (F := Ideal) a (ix2 0 r)
      = (((∑ k : Fin 150, simR (fun k => a (ix2 r k)) fun d => Q ⟨150 * (i r).val + k.val, by omega⟩ d) * (2 / Real.log 2) : ℝ) : EReal) := fun r => by
    simp only [pay6_apply, h35, label_eq (hi r), onehot]
    rw [Finset.sum_eq_single (⟨(i r).val, by omega⟩ : Fin 8)
      (fun c _ hc => by rw [if_neg (fun h => hc (Fin.ext h)), zero_mul]) (fun h => absurd (Finset.mem_univ _) h)]
    rw [if_pos rfl, one_mul, pay3_kinv]
    have hs : ∀ k : Fin 128, ∑ j : Fin 1050, seg (ix2 j ⟨(i r).val, by omega⟩) * k0_pay2 (F := Ideal) q (ix2 j k)
        = ((∑ l : Fin 150, Q ⟨150 * (i r).val + l.val, by omega⟩ k : ℝ) : EReal) := fun k => by
      rw [← seg_sum (fun j => Q j k)]
      refine Finset.sum_congr rfl fun j _ => ?_
      rw [hseg]
      exact congrArg _ (hQ j k)
    simp only [hs]
    refine (ksim (fun k => a (ix2 r k)) fun k => ∑ l : Fin 150, Q ⟨150 * (i r).val + l.val, by omega⟩ k).trans ?_
    rw [simR_sum (fun k => a (ix2 r k)) fun l : Fin 150 => Q ⟨150 * (i r).val + l.val, by omega⟩]
  simp only [h4, h5, h6]
  rw [ker_block (fun r => cosR (fun k => a (ix2 r k)) (fun k => e (ix2 r k))) (fun r j => simR (fun k => a (ix2 r k)) fun d => Q j d) i]

end Cert.Proof.Ker

end
-- ==== Proof.Table.lean ====
/- The kernel's table of the queue's classes: one at a row's class, nought elsewhere. -/
module

public import proofs.«01_k».proof.KernelIdeal
public import Idealize.ShloMosaic.Lib.Pointwise

@[expose] public section

set_option maxRecDepth 16384

namespace Cert.Proof.Ker

open Cert.KernelIdeal Idealize.ShloMosaic

theorem lit_chunk : ∀ h : Fin 66, ∀ l : Fin 128, 128 * h.val + l.val < 8400 →
    lit0t (128 * h.val + l.val) = if (128 * h.val + l.val) / 8 / 150 = (128 * h.val + l.val) % 8 then 0x3F80#16 else 0#16 := by
  decide +kernel

theorem lit_eq (i : Fin 8400) : lit0 i = if i.val / 8 / 150 = i.val % 8 then 0x3F80#16 else 0#16 := by
  have h := lit_chunk ⟨i.val / 128, by omega⟩ ⟨i.val % 128, by omega⟩
  simp only [Nat.div_add_mod] at h
  exact h i.isLt

end Cert.Proof.Ker
-- ==== Proof.Seg.lean ====
/- The kernel's table of the queue's classes read at an index. -/
module

public import proofs.«01_k».proof.Proof.Table

@[expose] public section

set_option maxRecDepth 16384

namespace Cert.Proof.Ker

open Cert.KernelIdeal Idealize.ShloMosaic

theorem seg_word (j : Fin 1050) (c : Fin 8) :
    lit0 (S1050x8.rowMajor (ix2 j c)) = if j.val / 150 = c.val then 0x3F80#16 else 0#16 := by
  have h : (S1050x8.rowMajor (ix2 j c)).val = j.val * 8 + c.val := by
    rw [Shape.rowMajor_val_two]; rfl
  refine (lit_eq _).trans ?_
  rw [h]
  have h1 : (j.val * 8 + c.val) / 8 / 150 = j.val / 150 := by omega
  have h2 : (j.val * 8 + c.val) % 8 = c.val := by omega
  rw [h1, h2]

theorem seg_apply (j : Fin 1050) (c : Fin 8) :
    (FloatOps.ofBits (F := Ideal) .bf16 (lit0 (S1050x8.rowMajor (ix2 j c))) : EReal) = if j.val / 150 = c.val then 1 else 0 := by
  rw [seg_word]
  split
  · exact Ideal.ofBits_one_bf16
  · simp [Ideal.ofBits, Ideal.ieee]

end Cert.Proof.Ker
-- ==== Proof.KernelValue.lean ====
/- The kernel's run read: what each grid point leaves in the one-element output, what the four blocks are of the
   arguments, and the host's division after the region. -/
module

public import proofs.«01_k».proof.Proof.KernelOut
public import proofs.«01_k».proof.Proof.KernelBlock
public import proofs.«01_k».proof.Proof.Seg
public import Idealize.ShloMosaic.Lib.StableHlo.Run
public import Idealize.ShloMosaic.Lib.Tactic
public import Idealize.ShloMosaic.Lib.Claim
public import Idealize.ShloMosaic.Lib.Quiescent

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)

section Run

variable {F : FTy → Type} [FloatOps F] [Named F]
variable (m : (ℓ : Loc nD τ sig) → Buf (Elt F) ℓ) (ρ : Dev nD → PrngReg)

/-- The output's one element after point `n`: the points' payloads in order, from zero. -/
def acc (c : Dev nD) : (n : ℕ) → n < cfg0.N → F .f32
  | 0, h => step (iblk m c 0 ⟨0, h⟩) (iblk m c 1 ⟨0, h⟩) (iblk m c 2 ⟨0, h⟩) (iblk m c 3 ⟨0, h⟩) (iblk m c 4 ⟨0, h⟩)
      (Scalar.ofBits .f32 0x00000000#32)
  | n + 1, h => step (iblk m c 0 ⟨n + 1, h⟩) (iblk m c 1 ⟨n + 1, h⟩) (iblk m c 2 ⟨n + 1, h⟩) (iblk m c 3 ⟨n + 1, h⟩) (iblk m c 4 ⟨n + 1, h⟩)
      (acc c n (Nat.lt_of_succ_lt h))

theorem outsAt_eq (c : Dev nD) : ∀ (n : ℕ) (h : n < cfg0.N), outsAt0 m c n h = fun _ => acc m c n h
  | 0, h => (outsAt0_A m c ⟨0, h⟩ rfl).trans (out_A ..)
  | n + 1, h => by
    have hN : cfg0.N = 4 := N_0
    have hB : ¬(⟨n + 1, h⟩ : Fin cfg0.N).val % 4 = 0 := by dsimp only; omega
    rw [outsAt0_B m c ⟨n + 1, h⟩ hB]
    have e : outsAt0 m c ((⟨n + 1, h⟩ : Fin cfg0.N).val - 1) (Nat.lt_of_le_of_lt (Nat.sub_le _ _) h) = fun _ => acc m c n (Nat.lt_of_succ_lt h) :=
      outsAt_eq c n _
    rw [e, out_B]
    rfl

/-- The output array: the one element after the last point. -/
abbrev result (c : Dev nD) : Buf (Elt F) ((c : Thread nD τ).loc main_v1) := fun _ => acc m c 3 (by rw [show cfg0.N = 4 from N_0]; decide)

/-- An array of one element has one index. -/
theorem one_index (x y : S1x1.Idx) : x = y :=
  funext fun a => Fin.ext (by
    have hs : S1x1.size a = 1 := by revert a; decide
    have hx := (x a).isLt
    have hy := (y a).isLt
    omega)

/-- The last point writes the element back, and no other point does. -/
theorem result_array (c : Dev nD) : (dats m 0 c).arrAt 5 cfg0.N = result m c := by
  have hN : cfg0.N = 4 := N_0
  refine (dats m 0 c).arrAt_eq_of_cover 5 (result m c) (fun t hf => ?_) fun i => ?_
  · have last : t.val = 3 := by
      have h := (flush0_5 t).mp hf
      have := t.isLt
      omega
    have whole : ∀ n (h : n < cfg0.N), n = 3 → acc m c n h = acc m c 3 (by omega) := by
      rintro _ _ rfl
      rfl
    funext x
    rw [View.read_apply]
    refine Eq.trans ?_ (whole t.val t.isLt last)
    show (cfg0.win 5).cut (grid0.coords t) ((dats m 0 c).after 5 t) x = _
    rw [after0_5, outsAt_eq]
  · have h : (cfg0.win 5).flush t0_3 = true := (flush0_5 t0_3).mpr rfl
    refine ⟨t0_3, h, ?_⟩
    rw [one_index i (((cfg0.win 5).blk t0_3).view.emb (ix2 0 0))]
    exact View.emb_mem_set _ _

/-- What the host returns: the output's element over the number of rows. -/
abbrev kout (c : Dev nD) : Buf (Elt F) ((c : Thread nD τ).loc main_v3) :=
  Host.divf (shapeCast S_ (result m c) shapeCasts_S1x1_S_) (constant S_ .f32 0x46800000#32)

theorem tail_v3 (c : Dev nD) : Pipeline.afterTail₀ cfgs (dats m) 0 (V0 m) [hostOps1] c main_v3 = kout m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1) = result m c :=
    (Pipeline.withArrays_arr spec0 (by decide) c (V0 m c) (fun w => (dats m 0 c).arrAt w cfg0.N) 5).trans (result_array m c)
  rw [e]
  rfl

theorem run : θ_run defs (onTc (τ := τ) (main (F := F))) ⟨m, fun _ => 0, ρ⟩ fun r => ∀ c : Dev nD,
      r.2.mem ((c : Thread nD τ).loc main_v3) = kout m c :=
  (θ_run defs _ _).mono (fun _ h c => ((h c).2 main_v3 (Pipeline.mem_restRefs_of main_v3 (by decide) (by decide))).trans (tail_v3 m c))
    (run_main m ρ)

/-! ### The blocks of the arguments -/

/-- Row `r` of block `t`. -/
def rowOf (t : Fin cfg0.N) (r : Fin 4096) : Fin 16384 := ⟨4096 * t.val + r.val, by
  have hN : cfg0.N = 4 := N_0
  have := t.isLt; have := r.isLt; omega⟩

theorem iblk0 (c : Dev nD) (t : Fin cfg0.N) (r : Fin 4096) (k : Fin 128) :
    (iblk m c 0 t : Vec F S4096x128 .f32) (ix2 r k) = (m ((c : Thread nD τ).loc main_arg0) : Vec F S16384x128 .f32) (ix2 (rowOf t r) k) := by
  have hi : win0_0.index t 0 = t.val ∧ win0_0.index t 1 = 0 := by
    rcases fin_N0 t with rfl | rfl | rfl | rfl <;> decide
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * r.val = 4096 * t.val + r.val; rw [hi.1]; omega
  | ⟨1, _⟩ => show win0_0.index t 1 * 128 + 1 * k.val = k.val; rw [hi.2]; omega

theorem iblk1 (c : Dev nD) (t : Fin cfg0.N) (r : Fin 4096) (k : Fin 128) :
    (iblk m c 1 t : Vec F S4096x128 .f32) (ix2 r k) = (m ((c : Thread nD τ).loc main_arg1) : Vec F S16384x128 .f32) (ix2 (rowOf t r) k) := by
  have hi : win0_1.index t 0 = t.val ∧ win0_1.index t 1 = 0 := by
    rcases fin_N0 t with rfl | rfl | rfl | rfl <;> decide
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * r.val = 4096 * t.val + r.val; rw [hi.1]; omega
  | ⟨1, _⟩ => show win0_1.index t 1 * 128 + 1 * k.val = k.val; rw [hi.2]; omega

theorem V_v0 (c : Dev nD) : V m c main_v0 = transpose S7x16384 [1, 0] (m ((c : Thread nD τ).loc main_arg2)) transposes_S16384x7_S7x16384_1_0 := by
  entry_read
  rfl

theorem V_cst (c : Dev nD) : V m c main_cst = fun i => FloatOps.ofBits .bf16 (lit0 (S1050x8.rowMajor i)) := by
  entry_read
  rfl

theorem transpose_read (x : Vec F S16384x7 .f32) (c : Fin 7) (r : Fin 16384) :
    transpose S7x16384 [1, 0] x transposes_S16384x7_S7x16384_1_0 (ix2 c r) = x (ix2 r c) := by
  pointwise

theorem iblk2 (c : Dev nD) (t : Fin cfg0.N) (k : Fin 7) (r : Fin 4096) :
    (iblk m c 2 t : Vec F S7x4096 .f32) (ix2 k r) = (m ((c : Thread nD τ).loc main_arg2) : Vec F S16384x7 .f32) (ix2 (rowOf t r) k) := by
  have hi : win0_2.index t 0 = 0 ∧ win0_2.index t 1 = t.val := by
    rcases fin_N0 t with rfl | rfl | rfl | rfl <;> decide
  unfold iblk
  rw [View.read_apply]
  show V m c main_v0 _ = _
  rw [V_v0]
  refine Eq.trans (congrArg _ (funext fun a => Fin.ext ?_)) (transpose_read _ k (rowOf t r))
  match a with
  | ⟨0, _⟩ => show win0_2.index t 0 * 7 + 1 * k.val = k.val; rw [hi.1]; omega
  | ⟨1, _⟩ => show win0_2.index t 1 * 4096 + 1 * r.val = 4096 * t.val + r.val; rw [hi.2]; omega

theorem iblk3 (c : Dev nD) (t : Fin cfg0.N) (j : Fin 1050) (k : Fin 128) :
    (iblk m c 3 t : Vec F S1050x128 .f32) (ix2 j k) = (m ((c : Thread nD τ).loc main_arg3) : Vec F S1050x128 .f32) (ix2 j k) := by
  have hi : win0_3.index t 0 = 0 ∧ win0_3.index t 1 = 0 := by
    rcases fin_N0 t with rfl | rfl | rfl | rfl <;> decide
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 1050 + 1 * j.val = j.val; rw [hi.1]; omega
  | ⟨1, _⟩ => show win0_3.index t 1 * 128 + 1 * k.val = k.val; rw [hi.2]; omega

theorem iblk4 (c : Dev nD) (t : Fin cfg0.N) (j : Fin 1050) (k : Fin 8) :
    (iblk m c 4 t : Vec F S1050x8 .bf16) (ix2 j k) = FloatOps.ofBits .bf16 (lit0 (S1050x8.rowMajor (ix2 j k))) := by
  have hi : win0_4.index t 0 = 0 ∧ win0_4.index t 1 = 0 := by
    rcases fin_N0 t with rfl | rfl | rfl | rfl <;> decide
  unfold iblk
  rw [View.read_apply]
  show V m c main_cst _ = _
  rw [V_cst]
  refine congrArg (fun i : S1050x8.Idx => (FloatOps.ofBits .bf16 (lit0 (S1050x8.rowMajor i)) : F .bf16)) (funext fun a => Fin.ext ?_)
  match a with
  | ⟨0, _⟩ => show win0_4.index t 0 * 1050 + 1 * j.val = j.val; rw [hi.1]; omega
  | ⟨1, _⟩ => show win0_4.index t 1 * 8 + 1 * k.val = k.val; rw [hi.2]; omega

end Run

/-! ### The value over the extended reals -/

section Value

variable (m : (ℓ : Loc nD τ sig) → Buf (Elt Ideal) ℓ)

theorem iota_read (c : Fin 7) (r : Fin 4096) : iota .tc S7x4096 32 [0] iota_S7x4096_d0_w32 (ix2 c r) = BitVec.ofNat 32 c.val := by
  pointwise

/-- The loss of row `r` of the arguments. -/
def rowLoss (a e : Vec Ideal S16384x128 .f32) (Q : Fin 1050 → Fin 128 → ℝ) (i : Fin 16384 → Fin 7) (r : Fin 16384) : ℝ :=
  lossR (cosR (fun k => a (ix2 r k)) (fun k => e (ix2 r k))) (fun j => simR (fun k => a (ix2 r k)) fun d => Q j d) (i r)

theorem step_eq (c : Dev nD) (a e : Vec Ideal S16384x128 .f32) (p : Vec Ideal S16384x7 .f32) (q : Vec Ideal S1050x128 .f32)
    (ha : m ((c : Thread nD τ).loc main_arg0) = a) (he : m ((c : Thread nD τ).loc main_arg1) = e)
    (hp : m ((c : Thread nD τ).loc main_arg2) = p) (hq : m ((c : Thread nD τ).loc main_arg3) = q)
    (Q : Fin 1050 → Fin 128 → ℝ) (hQ : ∀ j k, q (ix2 j k) = (Q j k : EReal))
    (i : Fin 16384 → Fin 7) (hi : ∀ r, IsWin (fun k => p (ix2 r k)) (i r)) (t : Fin cfg0.N) (v : EReal) :
    (step (F := Ideal) (iblk m c 0 t) (iblk m c 1 t) (iblk m c 2 t) (iblk m c 3 t) (iblk m c 4 t) v : EReal)
      = v + ((∑ r : Fin 4096, rowLoss a e Q i (rowOf t r) : ℝ) : EReal) := by
  refine (block (iblk m c 0 t) (iblk m c 1 t) (iblk m c 2 t) (iblk m c 3 t) (iblk m c 4 t) _ iota_read Q
    (fun j k => (iblk3 m c t j k).trans (by rw [hq]; exact hQ j k))
    (fun j k => (iblk4 m c t j k).trans (seg_apply j k)) (fun r => i (rowOf t r)) (fun r => ?_) v).trans ?_
  · have : (fun k => (iblk m c 2 t : Vec Ideal S7x4096 .f32) (ix2 k r)) = fun k => p (ix2 (rowOf t r) k) :=
      funext fun k => (iblk2 m c t k r).trans (by rw [hp])
    rw [this]
    exact hi _
  · refine congrArg (fun x : ℝ => v + (x : EReal)) (Finset.sum_congr rfl fun r _ => ?_)
    have h0 : (fun k => (iblk m c 0 t : Vec Ideal S4096x128 .f32) (ix2 r k)) = fun k => a (ix2 (rowOf t r) k) := funext fun k => (iblk0 m c t r k).trans (by rw [ha])
    have h1 : (fun k => (iblk m c 1 t : Vec Ideal S4096x128 .f32) (ix2 r k)) = fun k => e (ix2 (rowOf t r) k) := funext fun k => (iblk1 m c t r k).trans (by rw [he])
    rw [h0, h1]
    rfl

theorem sum_blocks (f : Fin 16384 → ℝ) :
    ∑ r, f r = ((∑ r, f (rowOf t0_0 r) + ∑ r, f (rowOf t0_1 r)) + ∑ r, f (rowOf t0_2 r)) + ∑ r, f (rowOf t0_3 r) := by
  have e : ∀ (t : Fin cfg0.N) (k : Fin 4), t.val = k.val → ∑ r : Fin 4096, f (finProdFinEquiv (m := 4) (n := 4096) (k, r)) = ∑ r, f (rowOf t r) :=
    fun t k h => Finset.sum_congr rfl fun r _ => congrArg f (Fin.ext (by
      show r.val + 4096 * k.val = 4096 * t.val + r.val
      omega))
  have s : ∑ r, f r = ∑ k : Fin 4, ∑ r : Fin 4096, f (finProdFinEquiv (m := 4) (n := 4096) (k, r)) :=
    ((finProdFinEquiv (m := 4) (n := 4096)).sum_comp f).symm.trans (Fintype.sum_prod_type _)
  rw [s, Fin.sum_univ_four, e t0_0 0 rfl, e t0_1 1 rfl, e t0_2 2 rfl, e t0_3 3 rfl]

theorem acc_eq (c : Dev nD) (a e : Vec Ideal S16384x128 .f32) (p : Vec Ideal S16384x7 .f32) (q : Vec Ideal S1050x128 .f32)
    (ha : m ((c : Thread nD τ).loc main_arg0) = a) (he : m ((c : Thread nD τ).loc main_arg1) = e)
    (hp : m ((c : Thread nD τ).loc main_arg2) = p) (hq : m ((c : Thread nD τ).loc main_arg3) = q)
    (Q : Fin 1050 → Fin 128 → ℝ) (hQ : ∀ j k, q (ix2 j k) = (Q j k : EReal))
    (i : Fin 16384 → Fin 7) (hi : ∀ r, IsWin (fun k => p (ix2 r k)) (i r)) (h : 3 < cfg0.N) :
    (acc m c 3 h : EReal) = ((∑ r, rowLoss a e Q i r : ℝ) : EReal) := by
  have st := step_eq m c a e p q ha he hp hq Q hQ i hi
  have z : (Scalar.ofBits (F := Ideal) .f32 0x00000000#32 : EReal) = 0 := by simp [Scalar.ofBits, FloatOps.ofBits, Ideal.ofBits, Ideal.ieee]
  unfold acc; rw [st]
  unfold acc; rw [st]
  unfold acc; rw [st]
  unfold acc; rw [st, z, zero_add, sum_blocks]
  simp only [EReal.coe_add]
  rfl

/-- The kernel's result: the mean of the rows' losses. -/
theorem kout_eq (c : Dev nD) (a e : Vec Ideal S16384x128 .f32) (p : Vec Ideal S16384x7 .f32) (q : Vec Ideal S1050x128 .f32)
    (ha : m ((c : Thread nD τ).loc main_arg0) = a) (he : m ((c : Thread nD τ).loc main_arg1) = e)
    (hp : m ((c : Thread nD τ).loc main_arg2) = p) (hq : m ((c : Thread nD τ).loc main_arg3) = q)
    (Q : Fin 1050 → Fin 128 → ℝ) (hQ : ∀ j k, q (ix2 j k) = (Q j k : EReal))
    (i : Fin 16384 → Fin 7) (hi : ∀ r, IsWin (fun k => p (ix2 r k)) (i r)) :
    (kout (F := Ideal) m c : Vec Ideal S_ .f32) ix0 = Ideal.div ((∑ r, rowLoss a e Q i r : ℝ) : EReal) (Ideal.ofBits .f32 0x46800000#32) := by
  rw [← acc_eq m c a e p q ha he hp hq Q hQ i hi (by rw [show cfg0.N = 4 from N_0]; decide)]
  rfl

end Value

end Cert.Proof.Ker

end
-- ==== Proof.Value.lean ====
/- The value claim: on a finite queue the kernel's idealization and the reference end with the same number. -/
module

public import proofs.«01_k».proof.Defs
public import proofs.«01_k».proof.Proof.RefValue
public import proofs.«01_k».proof.Proof.KernelValue
public import proofs.«01_k».proof.Proof.Gen.Pre_queue_finite

@[expose] public section

set_option maxRecDepth 16384

noncomputable section

namespace Cert.Proof

open Idealize.ShloMosaic Idealize.SL.Sem

/-- What the precondition says of the queue: its entries are real numbers. -/
theorem queue_real (a e : FVec Ideal Cert.Pre_queue_finite.S16384x128 .f32) (p : FVec Ideal Cert.Pre_queue_finite.S16384x7 .f32)
    (q : FVec Ideal Cert.Pre_queue_finite.S1050x128 .f32)
    (h : Cert.Pre_queue_finite.fn (F := Ideal) a e p q = fun _ => 1#1) (j : Fin 1050) (k : Fin 128) :
    q (ix2 j k) = (((q (ix2 j k) : EReal).toReal : ℝ) : EReal) := by
  have h1 := congrFun h (ix2 j k)
  have h2 : (if (max (q (ix2 j k) : EReal) (-(q (ix2 j k) : EReal))) < (⊤ : EReal) then 1#1 else 0#1 : BitVec 1) = 1#1 := by
    refine Eq.trans ?_ h1
    have ht : Ideal.ofBits .f32 0x7F800000#32 = ⊤ := by simp [Ideal.ofBits, Ideal.ieee]
    unfold Cert.Pre_queue_finite.fn
    pointwise
    rw [ht]
    show (if max (q (ix2 j k) : EReal) (-(q (ix2 j k) : EReal)) < ⊤ then 1#1 else 0#1)
      = BitVec.ofBool (decide (max (q (ix2 j k) : EReal) (-(q (ix2 j k) : EReal)) < ⊤))
    split <;> rename_i hc <;> simp [hc]
  have h3 : max (q (ix2 j k) : EReal) (-(q (ix2 j k) : EReal)) < ⊤ := by
    by_contra hn
    rw [if_neg hn] at h2
    exact absurd h2 (by decide)
  refine (EReal.coe_toReal (fun ht => ?_) (fun hb => ?_)).symm
  · rw [ht] at h3; simp at h3
  · rw [hb] at h3; simp at h3

theorem algebraic : Cert.algebraic_KernelIdeal_ReferenceIdeal_pre_queue_finite := by
  intro m g m' g' hpre hm
  refine ⟨fun c => Ker.kout m c, ?_, ?_⟩
  · exact (θ_run _ _ _).mono (fun _ h c => ⟨h.1 c, h.2 c⟩) (θ_run_and (Ker.run m g) (Cert.KernelIdeal.Gen.unchanged m g))
  · refine (θ_run _ _ _).mono (fun _ h c => ⟨(h c).1.trans ?_, (h c).2⟩) (Ref.run m' g')
    obtain ⟨e0, e1, e2, e3⟩ := hm c
    rw [e0, e1, e2, e3]
    choose i hi hl using fun r => Ref.label_apply (m ((c.tc : Thread Cert.KernelIdeal.nD Cert.KernelIdeal.τ).loc Cert.KernelIdeal.main_arg2)) r
    have hQ := queue_real _ _ _ _ (hpre c)
    funext x
    obtain rfl : x = ix0 := Subsingleton.elim _ _
    refine (Ref.refOut_eq _ _ _ _ _ hQ i hi).trans (Ker.kout_eq m c _ _ _ _ rfl rfl rfl rfl _ hQ i hi).symm

end Cert.Proof

end
-- ==== Proof.Bound.lean ====
/- How far the loss of a row moves when a small number is added inside its logarithms. -/
module

public import proofs.«01_k».proof.Proof.Math

@[expose] public section

noncomputable section

namespace Cert.Proof

open Idealize.ShloMosaic

/-- The guard inside the logarithms: the word nearest 1e-8. -/
def guard : ℝ := 11258999 / 1125899906842624

theorem guard_word : Ideal.ofBits .f32 0x322BCC77#32 = ((guard : ℝ) : EReal) := by
  simp [Ideal.ofBits, Ideal.ieee, -EReal.coe_mul]
  norm_num [guard]

/-- The bound on the squared length of a queue vector: the word nearest 1.01. -/
def lenSq : ℝ := 8472494 / 8388608

theorem lenSq_word : Ideal.ofBits .f32 0x3F8147AE#32 = ((lenSq : ℝ) : EReal) := by
  simp [Ideal.ofBits, Ideal.ieee, -EReal.coe_mul]
  norm_num [lenSq]

/-- The allowed distance: the word nearest 6e-4. -/
def gap : ℝ := 10307922 / 17179869184

theorem gap_word : Ideal.ofBits .f32 0x3A1D4952#32 = ((gap : ℝ) : EReal) := by
  simp [Ideal.ofBits, Ideal.ieee, -EReal.coe_mul]
  norm_num [gap]

theorem guard_pos : 0 < guard := by norm_num [guard]

/-- A normalised row is real and no longer than one. -/
theorem fe_short (v : Fin 128 → EReal) : ∃ y : Fin 128 → ℝ, (∀ d, fe v d = (y d : EReal)) ∧ ∑ d, y d ^ 2 ≤ 1 := by
  obtain ⟨κ, x, hv, hx, hk, -⟩ := row v
  refine ⟨fun d => x d * κ, hv, ?_⟩
  rcases hx with rfl | hx
  · simp
  have hs : ∑ k, v k * v k = ((∑ k, x k ^ 2 : ℝ) : EReal) := by
    rw [coe_sum]
    exact Finset.sum_congr rfl fun k _ => by rw [hx k, pow_two, EReal.coe_mul]
  have hm : 0 < max (∑ k, x k ^ 2) epsSq := lt_max_of_lt_right (by norm_num [epsSq])
  rw [hs, ← EReal.coe_strictMono.monotone.map_max, rsqrt_coe hm] at hk
  have hk' : (Real.sqrt (max (∑ k, x k ^ 2) epsSq))⁻¹ = κ := by exact_mod_cast hk
  have : ∑ d, (x d * κ) ^ 2 = (∑ d, x d ^ 2) / max (∑ k, x k ^ 2) epsSq := by
    simp only [mul_pow]
    rw [← Finset.sum_mul, ← hk', inv_pow, Real.sq_sqrt hm.le, div_eq_mul_inv]
  show ∑ d, (x d * κ) ^ 2 ≤ 1
  rw [this, div_le_one hm]
  exact le_max_left _ _

/-- A normalised row against its twin: at most one. -/
theorem cosR_sq (v w : Fin 128 → EReal) : cosR v w ^ 2 ≤ 1 := by
  obtain ⟨y, hy, hy1⟩ := fe_short v
  obtain ⟨z, hz, hz1⟩ := fe_short w
  have : cosR v w = ∑ d, y d * z d := by
    have h : ∑ d, fe v d * fe w d = ((∑ d, y d * z d : ℝ) : EReal) := by
      rw [coe_sum]
      exact Finset.sum_congr rfl fun d _ => by rw [hy, hz, EReal.coe_mul]
    rw [cosR, h, EReal.toReal_coe]
  rw [this]
  refine (Finset.sum_mul_sq_le_sq_mul_sq _ _ _).trans ?_
  exact mul_le_one₀ hy1 (Finset.sum_nonneg fun _ _ => sq_nonneg _) hz1

/-- A normalised row against a vector of the queue: at most the vector's length. -/
theorem simR_sq (v : Fin 128 → EReal) (u : Fin 128 → ℝ) : (simR v fun d => (u d : EReal)) ^ 2 ≤ ∑ d, u d ^ 2 := by
  obtain ⟨y, hy, hy1⟩ := fe_short v
  have : (simR v fun d => (u d : EReal)) = ∑ d, y d * u d := by
    have h : ∑ d, fe v d * (u d : EReal) = ((∑ d, y d * u d : ℝ) : EReal) := by
      rw [coe_sum]
      exact Finset.sum_congr rfl fun d _ => by rw [hy, EReal.coe_mul]
    rw [simR, h, EReal.toReal_coe]
  rw [this]
  refine (Finset.sum_mul_sq_le_sq_mul_sq _ _ _).trans ?_
  exact mul_le_of_le_one_left (Finset.sum_nonneg fun _ _ => sq_nonneg _) hy1

/-- The loss of one row with the guard inside its logarithms. -/
def guardR (c : ℝ) (s : Fin 1050 → ℝ) (i : Fin 7) : ℝ :=
  (-Real.log (Real.exp (2 * c) / (Real.exp (2 * c) + ∑ j, Real.exp (2 * s j)) + guard)
    + ∑ k : Fin 150, -Real.log (Real.exp (2 * s ⟨150 * i.val + k.val, by omega⟩)
        / (Real.exp (2 * c) + ∑ j, Real.exp (2 * s j)) + guard)) / 151

/-- The guarded row over the extended reals. -/
theorem guard_row (c : ℝ) (s : Fin 1050 → ℝ) (i : Fin 7) :
    Ideal.div (-Ideal.log (Ideal.div (Ideal.exp (Ideal.div (c : EReal) ((1 / 2 : ℝ) : EReal)))
          (Ideal.exp (Ideal.div (c : EReal) ((1 / 2 : ℝ) : EReal)) + ∑ j, Ideal.exp (Ideal.div (s j : EReal) ((1 / 2 : ℝ) : EReal))) + (guard : EReal))
        + ∑ k : Fin 150, -Ideal.log (Ideal.div (Ideal.exp (Ideal.div (s ⟨150 * i.val + k.val, by omega⟩ : EReal) ((1 / 2 : ℝ) : EReal)))
          (Ideal.exp (Ideal.div (c : EReal) ((1 / 2 : ℝ) : EReal)) + ∑ j, Ideal.exp (Ideal.div (s j : EReal) ((1 / 2 : ℝ) : EReal))) + (guard : EReal)))
      ((151 : ℝ) : EReal) = (guardR c s i : EReal) := by
  have he : ∀ t : ℝ, Ideal.exp (Ideal.div (t : EReal) ((1 / 2 : ℝ) : EReal)) = ((Real.exp (2 * t) : ℝ) : EReal) := fun t => by
    rw [div_coe (by norm_num), exp_coe]; congr 2; ring
  simp only [he]
  rw [← coe_sum, ← EReal.coe_add]
  have hD := den_pos c s
  unfold guardR
  generalize Real.exp (2 * c) + ∑ j, Real.exp (2 * s j) = D at hD ⊢
  have hq : ∀ t : ℝ, -Ideal.log (Ideal.div ((Real.exp (2 * t) : ℝ) : EReal) (D : EReal) + (guard : EReal))
      = ((-Real.log (Real.exp (2 * t) / D + guard) : ℝ) : EReal) := fun t => by
    rw [div_coe hD.ne', ← EReal.coe_add, log_coe (add_pos (div_pos (Real.exp_pos _) hD) guard_pos), ← EReal.coe_neg]
  simp only [hq]
  rw [← coe_sum, ← EReal.coe_add, div_coe (by norm_num)]

/-- The loss of a row, its logarithms of quotients written out. -/
theorem lossR_eq (c : ℝ) (s : Fin 1050 → ℝ) (i : Fin 7) : lossR c s i
    = (-Real.log (Real.exp (2 * c) / (Real.exp (2 * c) + ∑ j, Real.exp (2 * s j)))
    + ∑ k : Fin 150, -Real.log (Real.exp (2 * s ⟨150 * i.val + k.val, by omega⟩)
        / (Real.exp (2 * c) + ∑ j, Real.exp (2 * s j)))) / 151 := by
  have hD := den_pos c s
  unfold lossR
  generalize Real.exp (2 * c) + ∑ j, Real.exp (2 * s j) = D at hD ⊢
  have hq : ∀ t : ℝ, -Real.log (Real.exp (2 * t) / D) = Real.log D - 2 * t := fun t => by
    rw [Real.log_div (Real.exp_pos _).ne' hD.ne', Real.log_exp]; ring
  simp only [hq]
  rw [Finset.sum_sub_distrib, Finset.sum_const, Finset.card_univ, Fintype.card_fin, ← Finset.mul_sum, nsmul_eq_mul]
  push_cast
  ring

theorem exp_402 : Real.exp (201 / 100) * Real.exp (201 / 100) ≤ 56 := by
  have h1 : Real.exp 1 ≤ 2.71829 := by
    refine (Real.exp_bound' (x := 1) zero_le_one le_rfl (n := 9) (by norm_num)).trans ?_
    norm_num [Finset.sum_range_succ, Nat.factorial]
  have h : Real.exp (1 / 50) ≤ 50 / 49 := by
    have := Real.add_one_le_exp (-(1 / 50) : ℝ)
    rw [Real.exp_neg] at this
    have hp := Real.exp_pos (1 / 50 : ℝ)
    rw [← inv_inv (Real.exp (1 / 50))]
    refine (inv_anti₀ (by norm_num) this).trans (by norm_num)
  have e : Real.exp (201 / 100) * Real.exp (201 / 100) = Real.exp 1 ^ 4 * Real.exp (1 / 50) := by
    rw [← Real.exp_add, ← Real.exp_nat_mul, ← Real.exp_add]
    congr 1
    norm_num
  rw [e]
  calc Real.exp 1 ^ 4 * Real.exp (1 / 50) ≤ (2.71829 : ℝ) ^ 4 * (50 / 49) := by gcongr
    _ ≤ 56 := by norm_num

/-- One logarithm: the guard raises it, by at most the allowed distance where all exponents are below 2.01. -/
theorem log_guard (D t : ℝ) (hD : 0 < D) (hD' : D ≤ 1051 * Real.exp (201 / 100)) (ht : -(201 / 100) ≤ t) :
    Real.log (Real.exp t / D) ≤ Real.log (Real.exp t / D + guard)
      ∧ Real.log (Real.exp t / D + guard) ≤ Real.log (Real.exp t / D) + gap := by
  have hx : 0 < Real.exp t / D := div_pos (Real.exp_pos _) hD
  have hg := guard_pos
  refine ⟨Real.log_le_log hx (by linarith), ?_⟩
  have h1 : Real.log ((Real.exp t / D + guard) / (Real.exp t / D)) ≤ (Real.exp t / D + guard) / (Real.exp t / D) - 1 :=
    Real.log_le_sub_one_of_pos (by positivity)
  rw [Real.log_div (by positivity) hx.ne'] at h1
  have h2 : (Real.exp t / D + guard) / (Real.exp t / D) - 1 = guard * (D * Real.exp (-t)) := by
    rw [Real.exp_neg]
    have := (Real.exp_pos t).ne'
    field_simp
    ring
  have h3 : D * Real.exp (-t) ≤ (1051 * Real.exp (201 / 100)) * Real.exp (201 / 100) := by
    gcongr
    linarith
  have h4 : guard * (D * Real.exp (-t)) ≤ gap := by
    calc guard * (D * Real.exp (-t)) ≤ guard * ((1051 * Real.exp (201 / 100)) * Real.exp (201 / 100)) := by gcongr
      _ = guard * 1051 * (Real.exp (201 / 100) * Real.exp (201 / 100)) := by ring
      _ ≤ guard * 1051 * 56 := by gcongr; exact exp_402
      _ ≤ gap := by norm_num [guard, gap]
  linarith

/-- One row: without the guard the loss is no smaller, and larger by at most the allowed distance. -/
theorem guard_bound (c : ℝ) (s : Fin 1050 → ℝ) (i : Fin 7) (hc : c ^ 2 ≤ 1) (hs : ∀ j, s j ^ 2 ≤ lenSq) :
    guardR c s i ≤ lossR c s i ∧ lossR c s i ≤ guardR c s i + gap := by
  have hc' : -(201 / 100) ≤ 2 * c ∧ 2 * c ≤ 201 / 100 := by
    constructor <;> nlinarith
  have hs' : ∀ j, -(201 / 100) ≤ 2 * s j ∧ 2 * s j ≤ 201 / 100 := fun j => by
    have h := hs j
    have hl : lenSq ≤ (201 / 200) ^ 2 := by norm_num [lenSq]
    have := abs_le.1 (abs_le_of_sq_le_sq (h.trans hl) (by norm_num))
    constructor <;> linarith [this.1, this.2]
  have hD := den_pos c s
  have hD' : Real.exp (2 * c) + ∑ j, Real.exp (2 * s j) ≤ 1051 * Real.exp (201 / 100) := by
    have h1 : Real.exp (2 * c) ≤ Real.exp (201 / 100) := Real.exp_le_exp.2 hc'.2
    have h2 : ∑ j : Fin 1050, Real.exp (2 * s j) ≤ ∑ j : Fin 1050, Real.exp (201 / 100) :=
      Finset.sum_le_sum fun j _ => Real.exp_le_exp.2 (hs' j).2
    rw [Finset.sum_const, Finset.card_univ, Fintype.card_fin, nsmul_eq_mul] at h2
    push_cast at h2
    linarith
  rw [lossR_eq, guardR]
  generalize Real.exp (2 * c) + ∑ j, Real.exp (2 * s j) = D at hD hD' ⊢
  have hp := log_guard D (2 * c) hD hD' hc'.1
  have hk := fun k : Fin 150 => log_guard D (2 * s ⟨150 * i.val + k.val, by omega⟩) hD hD' (hs' _).1
  have lo : ∑ k : Fin 150, -Real.log (Real.exp (2 * s ⟨150 * i.val + k.val, by omega⟩) / D + guard)
      ≤ ∑ k : Fin 150, -Real.log (Real.exp (2 * s ⟨150 * i.val + k.val, by omega⟩) / D) :=
    Finset.sum_le_sum fun k _ => neg_le_neg (hk k).1
  have hi : ∑ k : Fin 150, -Real.log (Real.exp (2 * s ⟨150 * i.val + k.val, by omega⟩) / D)
      ≤ ∑ k : Fin 150, (-Real.log (Real.exp (2 * s ⟨150 * i.val + k.val, by omega⟩) / D + guard) + gap) :=
    Finset.sum_le_sum fun k _ => by linarith [(hk k).2]
  rw [Finset.sum_add_distrib, Finset.sum_const, Finset.card_univ, Fintype.card_fin, nsmul_eq_mul] at hi
  push_cast at hi
  constructor
  · rw [div_le_div_iff_of_pos_right (by norm_num)]
    linarith [hp.1]
  · rw [div_add' _ _ _ (by norm_num), div_le_div_iff_of_pos_right (by norm_num)]
    linarith [hp.2]

/-- The mean of many rows, over the extended reals. -/
theorem mean_bound (f g : Fin 16384 → ℝ) (h : ∀ r, g r ≤ f r ∧ f r ≤ g r + gap) :
    Ideal.div ((∑ r, g r : ℝ) : EReal) ((16384 : ℝ) : EReal) ≤ Ideal.div ((∑ r, f r : ℝ) : EReal) ((16384 : ℝ) : EReal)
      ∧ Ideal.div ((∑ r, f r : ℝ) : EReal) ((16384 : ℝ) : EReal)
        ≤ Ideal.div ((∑ r, g r : ℝ) : EReal) ((16384 : ℝ) : EReal) + (gap : EReal) := by
  have lo : ∑ r, g r ≤ ∑ r, f r := Finset.sum_le_sum fun r _ => (h r).1
  have hi : ∑ r, f r ≤ ∑ r : Fin 16384, (g r + gap) := Finset.sum_le_sum fun r _ => (h r).2
  rw [Finset.sum_add_distrib, Finset.sum_const, Finset.card_univ, Fintype.card_fin, nsmul_eq_mul] at hi
  push_cast at hi
  rw [div_coe (by norm_num), div_coe (by norm_num), ← EReal.coe_add, EReal.coe_le_coe_iff, EReal.coe_le_coe_iff]
  constructor
  · rw [div_le_div_iff_of_pos_right (by norm_num)]
    exact lo
  · rw [div_add' _ _ _ (by norm_num), div_le_div_iff_of_pos_right (by norm_num)]
    linarith

end Cert.Proof

end
-- ==== Proof.Guarded.lean ====
/- The distance of the kernel's result from the loss with the guard inside its logarithms. -/
module

public import proofs.«01_k».proof.Defs
public import proofs.«01_k».proof.Proof.Bound
public import proofs.«01_k».proof.Proof.RefValue
public import proofs.«01_k».proof.Proof.KernelValue
public import proofs.«01_k».proof.Proof.Gen.Pre_queue_short
public import proofs.«01_k».proof.Proof.Gen.Post_near_guarded

@[expose] public section

set_option maxRecDepth 16384

noncomputable section

namespace Cert.Proof

namespace Ref

open Cert.ReferenceIdeal Cert.ReferenceIdeal.Gen Idealize.ShloMosaic

section

variable {F : FTy → Type} [FloatOps F]

/-- The loss of each row, the guard inside its logarithms. -/
def rowGuard (lp : FVec F S16384 .f32) (pv : FVec F S16384x150 .f32) (d : FVec F S16384 .f32) : FVec F S16384 .f32 :=
  Host.divf (addf (Host.negf (Host.log (addf (Host.divf lp d)
        (broadcastInDim S16384 ![] bcast_S_S16384 (constant S_ .f32 0x322BCC77#32)))))
      (Host.reduceAdd (Host.negf (Host.log (addf (Host.divf pv (broadcastInDim S16384x150 ![0, 1] bcast_S16384x1_S16384x150_0_1
        (broadcastInDim S16384x1 ![0] bcast_S16384_S16384x1_0 d)))
        (broadcastInDim S16384x150 ![] Cert.Post_near_guarded.Facts.bcast_S_S16384x150 (constant S_ .f32 0x322BCC77#32)))))
        (constant S_ .f32 0x00000000#32) reducesTo_S16384x150_S16384_d1 h_S_))
    (broadcastInDim S16384 ![] bcast_S_S16384 (constant S_ .f32 0x43170000#32))

/-- The guarded loss, of the four arguments. -/
def guardOut (a e : FVec F S16384x128 .f32) (p : FVec F S16384x7 .f32) (q : FVec F S1050x128 .f32) : FVec F S_ .f32 :=
  mean (rowGuard (lpos (feat a) (feat e)) (posv (sims (feat a) q) (label p)) (den (lpos (feat a) (feat e)) (sims (feat a) q)))

/-- What the claim's condition asks of a result: to lie between the guarded loss and the guarded loss and the gap. -/
theorem post_eq (a e : FVec F S16384x128 .f32) (p : FVec F S16384x7 .f32) (q : FVec F S1050x128 .f32) (out : FVec F S_ .f32) :
    Cert.Post_near_guarded.fn (F := F) a e p q out
      = andi (cmpf .ole (guardOut a e p q) out) (cmpf .ole out (addf (guardOut a e p q) (constant S_ .f32 0x3A1D4952#32))) := rfl

end

theorem rowGuard_apply (lp : FVec Ideal S16384 .f32) (pv : FVec Ideal S16384x150 .f32) (d : FVec Ideal S16384 .f32) (r : Fin 16384) :
    rowGuard lp pv d (ix1 r) = Ideal.div (-Ideal.log (Ideal.div (lp (ix1 r)) (d (ix1 r)) + Ideal.ofBits .f32 0x322BCC77#32)
      + ∑ k : Fin 150, -Ideal.log (Ideal.div (pv (ix2 r k)) (d (ix1 r)) + Ideal.ofBits .f32 0x322BCC77#32))
        (Ideal.ofBits .f32 0x43170000#32) := by
  pointwise [rowGuard]

theorem rowGuard_eq (a e : FVec Ideal S16384x128 .f32) (p : FVec Ideal S16384x7 .f32) (q : FVec Ideal S1050x128 .f32)
    (Q : Fin 1050 → Fin 128 → ℝ) (hQ : ∀ j k, q (ix2 j k) = (Q j k : EReal))
    (i : Fin 16384 → Fin 7) (hi : ∀ r, IsWin (fun c => p (ix2 r c)) (i r)) (r : Fin 16384) :
    rowGuard (lpos (feat a) (feat e)) (posv (sims (feat a) q) (label p)) (den (lpos (feat a) (feat e)) (sims (feat a) q)) (ix1 r)
      = (guardR (cosR (fun k => a (ix2 r k)) (fun k => e (ix2 r k))) (fun j => simR (fun k => a (ix2 r k)) fun d => Q j d) (i r) : EReal) := by
  obtain ⟨k, hk, hl⟩ := label_apply p r
  obtain rfl := (hi r).unique hk
  rw [rowGuard_apply]
  simp only [posv_apply _ _ _ _ _ hl, den_apply, lpos_apply, sims_apply, feat_fe, hQ, cos_eq, sim_eq, half_word, w151, guard_word]
  exact guard_row _ (fun j => simR (fun k => a (ix2 r k)) fun d => Q j d) (i r)

theorem guardOut_eq (a e : FVec Ideal S16384x128 .f32) (p : FVec Ideal S16384x7 .f32) (q : FVec Ideal S1050x128 .f32)
    (Q : Fin 1050 → Fin 128 → ℝ) (hQ : ∀ j k, q (ix2 j k) = (Q j k : EReal))
    (i : Fin 16384 → Fin 7) (hi : ∀ r, IsWin (fun c => p (ix2 r c)) (i r)) :
    guardOut a e p q ix0 = Ideal.div ((∑ r : Fin 16384,
      guardR (cosR (fun k => a (ix2 r k)) (fun k => e (ix2 r k))) (fun j => simR (fun k => a (ix2 r k)) fun d => Q j d) (i r) : ℝ) : EReal)
      (Ideal.ofBits .f32 0x46800000#32) := by
  rw [guardOut, mean_apply, coe_sum]
  simp only [rowGuard_eq a e p q Q hQ i hi]

end Ref

open Idealize.ShloMosaic Idealize.SL.Sem

/-- A comparison of the extended reals, where it is true. -/
theorem ofBool_le {x y : EReal} : BitVec.ofBool (decide (x ≤ y)) = 1#1 ↔ x ≤ y := by
  by_cases h : x ≤ y <;> simp [h]

/-- What the precondition says of the queue: the squared length of each vector is bounded. -/
theorem queue_len (a e : FVec Ideal Cert.Pre_queue_short.S16384x128 .f32) (p : FVec Ideal Cert.Pre_queue_short.S16384x7 .f32)
    (q : FVec Ideal Cert.Pre_queue_short.S1050x128 .f32)
    (h : Cert.Pre_queue_short.fn (F := Ideal) a e p q = fun _ => 1#1) (j : Fin 1050) :
    (∑ k : Fin 128, (q (ix2 j k) : EReal) * q (ix2 j k)) ≤ (lenSq : EReal) := by
  have h1 := congrFun h (ix1 j)
  rw [← ofBool_le]
  refine Eq.trans ?_ h1
  rw [← lenSq_word]
  unfold Cert.Pre_queue_short.fn
  pointwise

/-- So its entries are real numbers, of bounded squared length. -/
theorem queue_short_real (a e : FVec Ideal Cert.Pre_queue_short.S16384x128 .f32) (p : FVec Ideal Cert.Pre_queue_short.S16384x7 .f32)
    (q : FVec Ideal Cert.Pre_queue_short.S1050x128 .f32)
    (h : Cert.Pre_queue_short.fn (F := Ideal) a e p q = fun _ => 1#1) :
    ∃ Q : Fin 1050 → Fin 128 → ℝ, (∀ j k, q (ix2 j k) = (Q j k : EReal)) ∧ ∀ j, ∑ k, Q j k ^ 2 ≤ lenSq := by
  have hl := queue_len a e p q h
  have hr : ∀ j k, q (ix2 j k) = (((q (ix2 j k) : EReal).toReal : ℝ) : EReal) := fun j k => by
    have hn : ¬((q (ix2 j k) : EReal) = ⊤ ∨ (q (ix2 j k) : EReal) = ⊥) := fun hi => by
      have := sum_top (v := fun k => (q (ix2 j k) : EReal)) hi
      have hj := hl j
      rw [this] at hj
      exact absurd (top_le_iff.1 hj) (EReal.coe_ne_top _)
    rw [not_or] at hn
    exact (EReal.coe_toReal hn.1 hn.2).symm
  refine ⟨fun j k => (q (ix2 j k) : EReal).toReal, hr, fun j => ?_⟩
  have hj := hl j
  rw [← EReal.coe_le_coe_iff, coe_sum]
  refine le_trans (le_of_eq (Finset.sum_congr rfl fun k _ => ?_)) hj
  rw [pow_two, EReal.coe_mul, ← hr j k]

theorem holds : Cert.holds_KernelIdeal_near_guarded_pre_queue_short := by
  intro m g hpre
  refine (θ_run _ _ _).mono (fun r h c => ?_) (θ_run_and (Ker.run m g) (Cert.KernelIdeal.Gen.unchanged m g))
  obtain ⟨h0, h1, h2, h3⟩ := h.2 c
  refine ⟨h0, h1, h2, h3, ?_⟩
  have hk := h.1 c
  rw [hk]
  obtain ⟨Q, hQ, hs⟩ := queue_short_real _ _ _ _ (hpre c)
  choose i hi hl using fun r => Ref.label_apply (m ((c.tc : Thread Cert.KernelIdeal.nD Cert.KernelIdeal.τ).loc Cert.KernelIdeal.main_arg2)) r
  have hker := Ker.kout_eq m c _ _ _ _ rfl rfl rfl rfl Q hQ i hi
  have hg := Ref.guardOut_eq (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) _ _ Q hQ i hi
  refine (Ref.post_eq _ _ _ _ _).trans ?_
  rw [w16384] at hker hg
  have hb := mean_bound _ _ fun r => guard_bound _ _ (i r)
    (cosR_sq (fun k => m ((c.tc : Thread Cert.KernelIdeal.nD Cert.KernelIdeal.τ).loc Cert.KernelIdeal.main_arg0) (ix2 r k))
      (fun k => m ((c.tc : Thread Cert.KernelIdeal.nD Cert.KernelIdeal.τ).loc Cert.KernelIdeal.main_arg1) (ix2 r k)))
    (fun j => (simR_sq (fun k => m ((c.tc : Thread Cert.KernelIdeal.nD Cert.KernelIdeal.τ).loc Cert.KernelIdeal.main_arg0) (ix2 r k)) (Q j)).trans (hs j))
  rw [← gap_word] at hb
  funext x
  obtain rfl : x = ix0 := Subsingleton.elim _ _
  have h1 := le_of_eq_of_le (α := EReal) hg (le_of_le_of_eq hb.1 hker.symm)
  have h2 := le_of_eq_of_le (α := EReal) hker (le_of_le_of_eq hb.2 (congrArg (fun t : EReal => t + Ideal.ofBits .f32 0x3A1D4952#32) hg.symm))
  have e1 := ofBool_le.2 h1
  have e2 := ofBool_le.2 h2
  exact (congrArg₂ (fun u v : BitVec 1 => u &&& v) e1 e2).trans (by decide)

end Cert.Proof

end
-- ==== Proof.lean ====
/- The certificate's claims: the three frames, what the named constants stand for, the value claim, and the
   distance from the loss with the guard in its logarithms. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_queue_finite
public import proofs.«01_k».proof.Proof.Gen.Pre_queue_short
public import proofs.«01_k».proof.Proof.Gen.Post_near_guarded
public import proofs.«01_k».proof.Proof.Value
public import proofs.«01_k».proof.Proof.Guarded
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  ⟨IdealRules.named_const.statement Cert.KernelIdeal.κ "c_scale" .f32 0x3DF5FDF0#32 _ rfl,
    IdealRules.named_const.statement Cert.KernelIdeal.κ "floor_sq_c" .f32 0x1614B169#32 _ rfl,
    IdealRules.named_const.statement Cert.KernelIdeal.κ "floor_sq" .f32 0x179ABE15#32 _ rfl,
    IdealRules.named_const.statement Cert.KernelIdeal.κ "inv_ln2" .f32 0x3FB8AA3B#32 _ rfl,
    IdealRules.named_const.statement Cert.KernelIdeal.κ "ln2_mean" .f32 0x3B966AE3#32 _ rfl⟩

theorem claim : Cert.Claim :=
  ⟨Cert.Kernel.Gen.facts, Cert.KernelIdeal.Gen.facts, Cert.ReferenceIdeal.Gen.facts, Cert.Pre_queue_finite.Gen.facts,
    Cert.Pre_queue_short.Gen.facts, Cert.Post_near_guarded.Gen.facts, fun m g _ => Cert.Kernel.Gen.frame m g,
    fun m g _ => Cert.KernelIdeal.Gen.frame m g, fun m g _ => Cert.KernelIdeal.Gen.frame m g, fun m g _ => Cert.KernelIdeal.Gen.frame m g,
    fun m g _ => Ref.frame m g, fun m g _ => Ref.frame m g, preserves, algebraic, holds⟩

end Cert.Proof

end
